-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_repairable [hPre_repairable : Cert.Pre_repairable.Facts] (m : (ℓ : Loc Cert.KernelIdeal.nD Cert.KernelIdeal.τ Cert.KernelIdeal.sig) → Buf (Elt Ideal) ℓ) : Prop :=
  ∀ c : Dev Cert.KernelIdeal.nD,
    (Cert.Pre_repairable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_repairable [hPre_repairable : Cert.Pre_repairable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_repairable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_repairable [hKernelIdeal : Cert.KernelIdeal.Facts] [hPre_repairable : Cert.Pre_repairable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_repairable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_repairable [hReferenceIdeal : Cert.ReferenceIdeal.Facts] [hPre_repairable : Cert.Pre_repairable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_repairable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.sign_bit.Statement Cert.KernelIdeal.S4095x128 .f32
  ∧ IdealRules.sign_bit.Statement Cert.KernelIdeal.S128 .f32
  ∧ IdealRules.named_const.Statement Cert.KernelIdeal.κ "two_over_pi" .f32 0x3F22F983#32 ((2 * Real.pi⁻¹ : ℝ) : EReal)

def algebraic_KernelIdeal_ReferenceIdeal_pre_repairable [hKernelIdeal : Cert.KernelIdeal.Facts] [hReferenceIdeal : Cert.ReferenceIdeal.Facts] [hPre_repairable : Cert.Pre_repairable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_repairable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_repairable : Cert.Pre_repairable.Facts),
    quiescent_Kernel (hKernel := hKernel)
    ∧ quiescent_KernelIdeal (hKernelIdeal := hKernelIdeal)
    ∧ quiescent_KernelIdeal_pre_repairable (hKernelIdeal := hKernelIdeal) (hPre_repairable := hPre_repairable)
    ∧ quiescent_ReferenceIdeal (hReferenceIdeal := hReferenceIdeal)
    ∧ quiescent_ReferenceIdeal_pre_repairable (hReferenceIdeal := hReferenceIdeal) (hPre_repairable := hPre_repairable)
    ∧ preserves_Kernel_KernelIdeal
    ∧ algebraic_KernelIdeal_ReferenceIdeal_pre_repairable (hKernelIdeal := hKernelIdeal) (hReferenceIdeal := hReferenceIdeal) (hPre_repairable := hPre_repairable)
-- ==== Pre_repairable.lean ====
abbrev S16384x1024 : Shape := ⟨2, ![16384, 1024]⟩
abbrev S_ : Shape := ⟨0, ![]⟩
abbrev S1024 : Shape := ⟨1, ![1024]⟩
abbrev S16383x1024 : Shape := ⟨2, ![16383, 1024]⟩
abbrev S1x1024 : Shape := ⟨2, ![1, 1024]⟩
abbrev S1024x1 : Shape := ⟨2, ![1024, 1]⟩
abbrev S1024x1024 : Shape := ⟨2, ![1024, 1024]⟩

class Facts : Prop where
  reducesTo_S16384x1024_S1024_d0 : S16384x1024.ReducesTo [0] S1024
  h_S_ : 0 < S_.numel
  bcast_S_S1024 : S_.BroadcastsInDim S1024 (![] : Fin 0 → Fin S1024.rank)
  slices_S16384x1024_S16383x1024_0_0 : S16384x1024.Slices ![0, 0] S16383x1024
  slices_S16384x1024_S16383x1024_1_0 : S16384x1024.Slices ![1, 0] S16383x1024
  bcast_S_S16383x1024 : S_.BroadcastsInDim S16383x1024 (![] : Fin 0 → Fin S16383x1024.rank)
  reducesTo_S16383x1024_S1024_d0 : S16383x1024.ReducesTo [0] S1024
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  natLt_1_32 : 1 < 32
  reducesTo_S1024x1024_S1024_d1 : S1024x1024.ReducesTo [1] S1024
  bcast_S1x1024_S16383x1024_0_1 : S1x1024.BroadcastsInDim S16383x1024 (![0, 1] : Fin 2 → Fin S16383x1024.rank)
  bcast_S_S1x1024 : S_.BroadcastsInDim S1x1024 (![] : Fin 0 → Fin S1x1024.rank)

variable [Facts]

def fn_where {F : FTy → Type} [FloatOps F] (arg0 : IVec S16383x1024 1) (arg1 : IVec S16383x1024 32) (arg2 : IVec S_ 32) : IVec S16383x1024 32 :=
  let v0 : IVec S_ 32 := id arg2
  let v1 : IVec S16383x1024 32 := broadcastInDim S16383x1024 ![] bcast_S_S16383x1024 v0
  let v2 : IVec S16383x1024 32 := select arg0 arg1 v1
  v2

def fn_part3 {F : FTy → Type} [FloatOps F] (main_v8 : IVec S1024 1) (main_v26 : IVec S16383x1024 1) (main_v41 : IVec S16383x1024 1) (main_v54 : IVec S16383x1024 1) (main_v55 : IVec S1x1024 32) (main_c_13 : IVec S_ 32) : IVec S16383x1024 1 :=
  let main_v56 : IVec S1x1024 32 := broadcastInDim S1x1024 ![] bcast_S_S1x1024 main_c_13
  let main_v57 : IVec S1x1024 1 := cmpi .sle main_v55 main_v56
  let main_v58 : IVec S16383x1024 1 := broadcastInDim S16383x1024 ![0, 1] bcast_S1x1024_S16383x1024_0_1 main_v57
  let main_v59 : IVec S16383x1024 1 := andi main_v54 main_v58
  let main_v60 : IVec S1x1024 1 := broadcastInDim S1x1024 ![1] bcast_S1024_S1x1024_1 main_v8
  let main_v61 : IVec S1x1024 1 := noti main_v60
  let main_v62 : IVec S16383x1024 1 := noti main_v26
  let main_v63 : IVec S16383x1024 1 := noti main_v41
  let main_v64 : IVec S16383x1024 1 := ori main_v63 main_v59
  let main_v65 : IVec S16383x1024 1 := andi main_v62 main_v64
  let main_v66 : IVec S16383x1024 1 := broadcastInDim S16383x1024 ![0, 1] bcast_S1x1024_S16383x1024_0_1 main_v61
  let main_v67 : IVec S16383x1024 1 := ori main_v66 main_v65
  main_v67

def fn_part2 {F : FTy → Type} [FloatOps F] (main_v8 : IVec S1024 1) (main_v11 : FVec F S16383x1024 .f32) (main_v12 : FVec F S16383x1024 .f32) (main_v26 : IVec S16383x1024 1) (main_v33 : IVec S16383x1024 1) (main_v35 : IVec S16383x1024 1) (main_v36 : FVec F S16383x1024 .f32) : IVec S16383x1024 1 :=
  let main_v37 : IVec S16383x1024 1 := cmpf .ogt main_v11 main_v36
  let main_v38 : IVec S16383x1024 1 := andi main_v35 main_v37
  let main_cst_10 : FVec F S_ .f32 := constant S_ .f32 0x00000000#32
  let main_v39 : FVec F S16383x1024 .f32 := broadcastInDim S16383x1024 ![] bcast_S_S16383x1024 main_cst_10
  let main_v40 : IVec S16383x1024 1 := cmpf .olt main_v12 main_v39
  let main_v41 : IVec S16383x1024 1 := andi main_v38 main_v40
  let main_v42 : IVec S16383x1024 32 := iotaInDim S16383x1024 32 0
  let main_c : IVec S_ 32 := constantI S_ 32 4294967295#32
  let main_v43 : IVec S16383x1024 32 := fn_where (F := F) main_v33 main_v42 main_c
  let main_c_11 : IVec S_ 32 := constantI S_ 32 2147483648#32
  let main_v44 : IVec S1024 32 := (fun x v => Host.reduce IntOp.maxsi x v reducesTo_S16383x1024_S1024_d0 h_S_) main_v43 main_c_11
  let main_v45 : IVec S1x1024 32 := broadcastInDim S1x1024 ![1] bcast_S1024_S1x1024_1 main_v44
  let main_v46 : IVec S1024x1 32 := broadcastInDim S1024x1 ![0] bcast_S1024_S1024x1_0 main_v44
  let main_v47 : IVec S1024x1024 32 := broadcastInDim S1024x1024 ![0, 1] bcast_S1x1024_S1024x1024_0_1 main_v45
  let main_v48 : IVec S1024x1024 32 := broadcastInDim S1024x1024 ![0, 1] bcast_S1024x1_S1024x1024_0_1 main_v46
  let main_v49 : IVec S1024x1024 1 := cmpi .sge main_v47 main_v48
  let main_v50 : IVec S1024x1024 32 := (extui 32 · natLt_1_32) main_v49
  let main_c_12 : IVec S_ 32 := constantI S_ 32 0#32
  let main_v51 : IVec S1024 32 := (fun x v => Host.reduce IntOp.addi x v reducesTo_S1024x1024_S1024_d1 h_S_) main_v50 main_c_12
  let main_v52 : IVec S1x1024 32 := broadcastInDim S1x1024 ![1] bcast_S1024_S1x1024_1 main_v44
  let main_v53 : IVec S16383x1024 32 := broadcastInDim S16383x1024 ![0, 1] bcast_S1x1024_S16383x1024_0_1 main_v52
  let main_v54 : IVec S16383x1024 1 := cmpi .eq main_v42 main_v53
  let main_v55 : IVec S1x1024 32 := broadcastInDim S1x1024 ![1] bcast_S1024_S1x1024_1 main_v51
  let main_c_13 : IVec S_ 32 := constantI S_ 32 64#32
  fn_part3 (F := F) main_v8 main_v26 main_v41 main_v54 main_v55 main_c_13

def fn_part1 {F : FTy → Type} [FloatOps F] (main_v8 : IVec S1024 1) (main_v11 : FVec F S16383x1024 .f32) (main_v12 : FVec F S16383x1024 .f32) (main_v15 : FVec F S16383x1024 .f32) (main_v17 : IVec S16383x1024 1) (main_v18 : FVec F S16383x1024 .f32) : IVec S16383x1024 1 :=
  let main_v19 : IVec S16383x1024 1 := cmpf .olt main_v12 main_v18
  let main_v20 : IVec S16383x1024 1 := andi main_v17 main_v19
  let main_cst_4 : FVec F S_ .f32 := constant S_ .f32 0x00000000#32
  let main_v21 : FVec F S16383x1024 .f32 := broadcastInDim S16383x1024 ![] bcast_S_S16383x1024 main_cst_4
  let main_v22 : IVec S16383x1024 1 := cmpf .olt main_v11 main_v21
  let main_cst_5 : FVec F S_ .f32 := constant S_ .f32 0x00000000#32
  let main_v23 : FVec F S16383x1024 .f32 := broadcastInDim S16383x1024 ![] bcast_S_S16383x1024 main_cst_5
  let main_v24 : IVec S16383x1024 1 := cmpf .oeq main_v12 main_v23
  let main_v25 : IVec S16383x1024 1 := andi main_v22 main_v24
  let main_v26 : IVec S16383x1024 1 := ori main_v20 main_v25
  let main_v27 : FVec F S16383x1024 .f32 := mulf main_v11 main_v12
  let main_cst_6 : FVec F S_ .f32 := constant S_ .f32 0x00000000#32
  let main_v28 : FVec F S16383x1024 .f32 := broadcastInDim S16383x1024 ![] bcast_S_S16383x1024 main_cst_6
  let main_v29 : IVec S16383x1024 1 := cmpf .olt main_v27 main_v28
  let main_v30 : FVec F S16383x1024 .f32 := Host.absf main_v15
  let main_cst_7 : FVec F S_ .f32 := constant S_ .f32 0x322BCC77#32
  let main_v31 : FVec F S16383x1024 .f32 := broadcastInDim S16383x1024 ![] bcast_S_S16383x1024 main_cst_7
  let main_v32 : IVec S16383x1024 1 := cmpf .olt main_v30 main_v31
  let main_v33 : IVec S16383x1024 1 := andi main_v29 main_v32
  let main_cst_8 : FVec F S_ .f32 := constant S_ .f32 0x00000000#32
  let main_v34 : FVec F S16383x1024 .f32 := broadcastInDim S16383x1024 ![] bcast_S_S16383x1024 main_cst_8
  let main_v35 : IVec S16383x1024 1 := cmpf .oeq main_v15 main_v34
  let main_cst_9 : FVec F S_ .f32 := constant S_ .f32 0x00000000#32
  let main_v36 : FVec F S16383x1024 .f32 := broadcastInDim S16383x1024 ![] bcast_S_S16383x1024 main_cst_9
  fn_part2 (F := F) main_v8 main_v11 main_v12 main_v26 main_v33 main_v35 main_v36

def fn {F : FTy → Type} [FloatOps F] (main_arg0 : FVec F S16384x1024 .f32) (main_arg1 : FVec F S16384x1024 .f32) : IVec S16383x1024 1 :=
  let main_v0 : FVec F S16384x1024 .f32 := mulf main_arg0 main_arg0
  let main_v1 : FVec F S16384x1024 .f32 := mulf main_arg1 main_arg1
  let main_v2 : FVec F S16384x1024 .f32 := addf main_v0 main_v1
  let main_v3 : FVec F S16384x1024 .f32 := Host.sqrt main_v2
  let main_cst : FVec F S_ .f32 := constant S_ .f32 0x00000000#32
  let main_v4 : FVec F S1024 .f32 := (fun x v => Host.reduceAdd x v reducesTo_S16384x1024_S1024_d0 h_S_) main_v3 main_cst
  let main_cst_0 : FVec F S_ .f32 := constant S_ .f32 0x46800000#32
  let main_v5 : FVec F S1024 .f32 := broadcastInDim S1024 ![] bcast_S_S1024 main_cst_0
  let main_v6 : FVec F S1024 .f32 := Host.divf main_v4 main_v5
  let main_cst_1 : FVec F S_ .f32 := constant S_ .f32 0x3DCCCCCD#32
  let main_v7 : FVec F S1024 .f32 := broadcastInDim S1024 ![] bcast_S_S1024 main_cst_1
  let main_v8 : IVec S1024 1 := cmpf .olt main_v6 main_v7
  let main_v9 : FVec F S16383x1024 .f32 := (extractStridedSlice S16383x1024 ![0, 0] · slices_S16384x1024_S16383x1024_0_0) main_arg0
  let main_v10 : FVec F S16383x1024 .f32 := (extractStridedSlice S16383x1024 ![1, 0] · slices_S16384x1024_S16383x1024_1_0) main_arg0
  let main_v11 : FVec F S16383x1024 .f32 := (extractStridedSlice S16383x1024 ![0, 0] · slices_S16384x1024_S16383x1024_0_0) main_arg1
  let main_v12 : FVec F S16383x1024 .f32 := (extractStridedSlice S16383x1024 ![1, 0] · slices_S16384x1024_S16383x1024_1_0) main_arg1
  let main_v13 : FVec F S16383x1024 .f32 := mulf main_v9 main_v12
  let main_v14 : FVec F S16383x1024 .f32 := mulf main_v11 main_v10
  let main_v15 : FVec F S16383x1024 .f32 := subf main_v13 main_v14
  let main_cst_2 : FVec F S_ .f32 := constant S_ .f32 0x00000000#32
  let main_v16 : FVec F S16383x1024 .f32 := broadcastInDim S16383x1024 ![] bcast_S_S16383x1024 main_cst_2
  let main_v17 : IVec S16383x1024 1 := cmpf .oeq main_v11 main_v16
  let main_cst_3 : FVec F S_ .f32 := constant S_ .f32 0x00000000#32
  let main_v18 : FVec F S16383x1024 .f32 := broadcastInDim S16383x1024 ![] bcast_S_S16383x1024 main_cst_3
  fn_part1 (F := F) main_v8 main_v11 main_v12 main_v15 main_v17 main_v18
-- ==== Kernel.lean ====
abbrev S16384x1024 : Shape := ⟨2, ![16384, 1024]⟩
abbrev S1x1024 : Shape := ⟨2, ![1, 1024]⟩
abbrev S1024 : Shape := ⟨1, ![1024]⟩
abbrev S64 : Shape := ⟨1, ![64]⟩
abbrev S_ : Shape := ⟨0, ![]⟩
abbrev S64x1 : Shape := ⟨2, ![64, 1]⟩
abbrev S64x2 : Shape := ⟨2, ![64, 2]⟩
abbrev S4096x128 : Shape := ⟨2, ![4096, 128]⟩
abbrev S1x128 : Shape := ⟨2, ![1, 128]⟩
abbrev S8x128 : Shape := ⟨2, ![8, 128]⟩
abbrev S128 : Shape := ⟨1, ![128]⟩
abbrev S4095x128 : Shape := ⟨2, ![4095, 128]⟩

abbrev nBuf : Space → Nat
  | .hbm => 188
  | .vmem => 12
  | .smem => 0
  | _ => 0

abbrev hbmTy0_0 (i : Nat) : BufTy := match i % 128 with
  | 0 => ⟨S16384x1024, .f32⟩
  | 1 => ⟨S16384x1024, .f32⟩
  | 2 => ⟨S1x1024, .f32⟩
  | 3 => ⟨S1x1024, .f32⟩
  | 4 => ⟨S1x1024, .i32⟩
  | 5 => ⟨S1024, .f32⟩
  | 6 => ⟨S1024, .f32⟩
  | 7 => ⟨S1024, .i32⟩
  | 8 => ⟨S64, .i32⟩
  | 9 => ⟨S64, .i32⟩
  | 10 => ⟨S_, .i32⟩
  | 11 => ⟨S_, .i32⟩
  | 12 => ⟨S_, .i32⟩
  | 13 => ⟨S64, .i32⟩
  | 14 => ⟨S64, .i32⟩
  | 15 => ⟨S_, .i32⟩
  | 16 => ⟨S64, .i32⟩
  | 17 => ⟨S64, .i32⟩
  | 18 => ⟨S_, .i32⟩
  | 19 => ⟨S64, .i32⟩
  | 20 => ⟨S64, .i1⟩
  | 21 => ⟨S_, .i32⟩
  | 22 => ⟨S64, .i32⟩
  | 23 => ⟨S64, .i32⟩
  | 24 => ⟨S64, .i32⟩
  | 25 => ⟨S_, .i32⟩
  | 26 => ⟨S64, .i32⟩
  | 27 => ⟨S64, .i1⟩
  | 28 => ⟨S_, .i32⟩
  | 29 => ⟨S64, .i32⟩
  | 30 => ⟨S64, .i32⟩
  | 31 => ⟨S64, .i32⟩
  | 32 => ⟨S64x1, .i32⟩
  | 33 => ⟨S64x1, .i32⟩
  | 34 => ⟨S64x2, .i32⟩
  | 35 => ⟨S64, .f32⟩
  | 36 => ⟨S_, .i32⟩
  | 37 => ⟨S64, .i32⟩
  | 38 => ⟨S64, .i32⟩
  | 39 => ⟨S_, .i32⟩
  | 40 => ⟨S64, .i32⟩
  | 41 => ⟨S64, .i1⟩
  | 42 => ⟨S_, .i32⟩
  | 43 => ⟨S64, .i32⟩
  | 44 => ⟨S64, .i32⟩
  | 45 => ⟨S64, .i32⟩
  | 46 => ⟨S_, .i32⟩
  | 47 => ⟨S64, .i32⟩
  | 48 => ⟨S64, .i1⟩
  | 49 => ⟨S_, .i32⟩
  | 50 => ⟨S64, .i32⟩
  | 51 => ⟨S64, .i32⟩
  | 52 => ⟨S64, .i32⟩
  | 53 => ⟨S64x1, .i32⟩
  | 54 => ⟨S64x1, .i32⟩
  | 55 => ⟨S64x2, .i32⟩
  | 56 => ⟨S64, .f32⟩
  | 57 => ⟨S_, .i32⟩
  | 58 => ⟨S64, .i32⟩
  | 59 => ⟨S64, .i1⟩
  | 60 => ⟨S_, .i32⟩
  | 61 => ⟨S64, .i32⟩
  | 62 => ⟨S64, .i32⟩
  | 63 => ⟨S64, .i32⟩
  | 64 => ⟨S_, .i32⟩
  | 65 => ⟨S64, .i32⟩
  | 66 => ⟨S64, .i1⟩
  | 67 => ⟨S_, .i32⟩
  | 68 => ⟨S64, .i32⟩
  | 69 => ⟨S64, .i32⟩
  | 70 => ⟨S64, .i32⟩
  | 71 => ⟨S64x1, .i32⟩
  | 72 => ⟨S64x1, .i32⟩
  | 73 => ⟨S64x2, .i32⟩
  | 74 => ⟨S64, .f32⟩
  | 75 => ⟨S_, .i32⟩
  | 76 => ⟨S64, .i32⟩
  | 77 => ⟨S64, .i32⟩
  | 78 => ⟨S_, .i32⟩
  | 79 => ⟨S64, .i32⟩
  | 80 => ⟨S64, .i1⟩
  | 81 => ⟨S_, .i32⟩
  | 82 => ⟨S64, .i32⟩
  | 83 => ⟨S64, .i32⟩
  | 84 => ⟨S64, .i32⟩
  | 85 => ⟨S_, .i32⟩
  | 86 => ⟨S64, .i32⟩
  | 87 => ⟨S64, .i1⟩
  | 88 => ⟨S_, .i32⟩
  | 89 => ⟨S64, .i32⟩
  | 90 => ⟨S64, .i32⟩
  | 91 => ⟨S64, .i32⟩
  | 92 => ⟨S64x1, .i32⟩
  | 93 => ⟨S64x1, .i32⟩
  | 94 => ⟨S64x2, .i32⟩
  | 95 => ⟨S64, .f32⟩
  | 96 => ⟨S_, .f32⟩
  | 97 => ⟨S_, .f32⟩
  | 98 => ⟨S_, .f32⟩
  | 99 => ⟨S64, .f32⟩
  | 100 => ⟨S64, .f32⟩
  | 101 => ⟨S64, .f32⟩
  | 102 => ⟨S_, .f32⟩
  | 103 => ⟨S64, .f32⟩
  | 104 => ⟨S64, .i1⟩
  | 105 => ⟨S_, .f32⟩
  | 106 => ⟨S_, .f32⟩
  | 107 => ⟨S64, .f32⟩
  | 108 => ⟨S64, .f32⟩
  | 109 => ⟨S64, .f32⟩
  | 110 => ⟨S64, .f32⟩
  | 111 => ⟨S64, .i1⟩
  | 112 => ⟨S_, .f32⟩
  | 113 => ⟨S_, .f32⟩
  | 114 => ⟨S64, .f32⟩
  | 115 => ⟨S64, .f32⟩
  | 116 => ⟨S64, .f32⟩
  | 117 => ⟨S64, .f32⟩
  | 118 => ⟨S_, .f32⟩
  | 119 => ⟨S64, .f32⟩
  | 120 => ⟨S64, .i1⟩
  | 121 => ⟨S_, .f32⟩
  | 122 => ⟨S_, .f32⟩
  | 123 => ⟨S64, .f32⟩
  | 124 => ⟨S64, .f32⟩
  | 125 => ⟨S64, .f32⟩
  | 126 => ⟨S_, .f32⟩
  | 127 => ⟨S64, .f32⟩
  | _ => ⟨S16384x1024, .f32⟩

abbrev hbmTy0_1 (i : Nat) : BufTy := match i % 128 with
  | 0 => ⟨S64, .i1⟩
  | 1 => ⟨S_, .f32⟩
  | 2 => ⟨S_, .f32⟩
  | 3 => ⟨S64, .f32⟩
  | 4 => ⟨S64, .f32⟩
  | 5 => ⟨S64, .f32⟩
  | 6 => ⟨S64, .f32⟩
  | 7 => ⟨S64, .f32⟩
  | 8 => ⟨S64, .f32⟩
  | 9 => ⟨S_, .f32⟩
  | 10 => ⟨S64, .f32⟩
  | 11 => ⟨S64, .i1⟩
  | 12 => ⟨S_, .f32⟩
  | 13 => ⟨S_, .f32⟩
  | 14 => ⟨S64, .f32⟩
  | 15 => ⟨S64, .f32⟩
  | 16 => ⟨S64, .f32⟩
  | 17 => ⟨S64, .f32⟩
  | 18 => ⟨S64, .f32⟩
  | 19 => ⟨S64, .f32⟩
  | 20 => ⟨S64, .f32⟩
  | 21 => ⟨S64, .f32⟩
  | 22 => ⟨S64, .f32⟩
  | 23 => ⟨S_, .f32⟩
  | 24 => ⟨S64, .f32⟩
  | 25 => ⟨S64, .f32⟩
  | 26 => ⟨S_, .i32⟩
  | 27 => ⟨S64, .i32⟩
  | 28 => ⟨S64, .i1⟩
  | 29 => ⟨S_, .i32⟩
  | 30 => ⟨S64, .i32⟩
  | 31 => ⟨S64, .i32⟩
  | 32 => ⟨S64, .i32⟩
  | 33 => ⟨S64x1, .i32⟩
  | 34 => ⟨S64, .f32⟩
  | 35 => ⟨S64, .f32⟩
  | 36 => ⟨S64, .f32⟩
  | 37 => ⟨S64, .f32⟩
  | 38 => ⟨S_, .i32⟩
  | 39 => ⟨S64, .i32⟩
  | 40 => ⟨S64, .i1⟩
  | 41 => ⟨S_, .i32⟩
  | 42 => ⟨S64, .i32⟩
  | 43 => ⟨S64, .i32⟩
  | 44 => ⟨S64, .i32⟩
  | 45 => ⟨S64x1, .i32⟩
  | 46 => ⟨S1024, .f32⟩
  | 47 => ⟨S_, .f32⟩
  | 48 => ⟨S1024, .f32⟩
  | 49 => ⟨S1024, .i1⟩
  | 50 => ⟨S1024, .f32⟩
  | 51 => ⟨S_, .f32⟩
  | 52 => ⟨S1024, .f32⟩
  | 53 => ⟨S1024, .i1⟩
  | 54 => ⟨S1024, .i1⟩
  | 55 => ⟨S1024, .i32⟩
  | 56 => ⟨S_, .f32⟩
  | 57 => ⟨S_, .f32⟩
  | 58 => ⟨S1024, .f32⟩
  | 59 => ⟨S1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .i32⟩
  | .local _ .vmem, ⟨9, _⟩ => ⟨S1x128, .i32⟩
  | .local _ .vmem, ⟨10, _⟩ => ⟨S8x128, .f32⟩
  | .local _ .vmem, ⟨11, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v0_2 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_values : Ref sig .tc := ⟨.hbm, 8, rfl⟩
abbrev main_call0_indices : Ref sig .tc := ⟨.hbm, 9, rfl⟩
abbrev main_call0_c : Ref sig .tc := ⟨.hbm, 10, rfl⟩
abbrev main_call0_c_0 : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_c_3 : Ref sig .tc := ⟨.hbm, 25, rfl⟩
abbrev main_call0_v10 : Ref sig .tc := ⟨.hbm, 26, rfl⟩
abbrev main_call0_v11 : Ref sig .tc := ⟨.hbm, 27, rfl⟩
abbrev main_call0_c_4 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_c_5 : Ref sig .tc := ⟨.hbm, 36, rfl⟩
abbrev main_call0_v19 : Ref sig .tc := ⟨.hbm, 37, rfl⟩
abbrev main_call0_v20 : Ref sig .tc := ⟨.hbm, 38, rfl⟩
abbrev main_call0_c_6 : Ref sig .tc := ⟨.hbm, 39, rfl⟩
abbrev main_call0_v21 : Ref sig .tc := ⟨.hbm, 40, rfl⟩
abbrev main_call0_v22 : Ref sig .tc := ⟨.hbm, 41, rfl⟩
abbrev main_call0_c_7 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_c_8 : Ref sig .tc := ⟨.hbm, 46, rfl⟩
abbrev main_call0_v26 : Ref sig .tc := ⟨.hbm, 47, rfl⟩
abbrev main_call0_v27 : Ref sig .tc := ⟨.hbm, 48, rfl⟩
abbrev main_call0_c_9 : Ref sig .tc := ⟨.hbm, 49, rfl⟩
abbrev main_call0_v28 : Ref sig .tc := ⟨.hbm, 50, rfl⟩
abbrev main_call0_v29 : Ref sig .tc := ⟨.hbm, 51, rfl⟩
abbrev main_call0_v30 : Ref sig .tc := ⟨.hbm, 52, rfl⟩
abbrev main_call0_v31 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_c_10 : Ref sig .tc := ⟨.hbm, 57, rfl⟩
abbrev main_call0_v35 : Ref sig .tc := ⟨.hbm, 58, rfl⟩
abbrev main_call0_v36 : Ref sig .tc := ⟨.hbm, 59, rfl⟩
abbrev main_call0_c_11 : Ref sig .tc := ⟨.hbm, 60, rfl⟩
abbrev main_call0_v37 : Ref sig .tc := ⟨.hbm, 61, rfl⟩
abbrev main_call0_v38 : Ref sig .tc := ⟨.hbm, 62, rfl⟩
abbrev main_call0_v39 : Ref sig .tc := ⟨.hbm, 63, rfl⟩
abbrev main_call0_c_12 : Ref sig .tc := ⟨.hbm, 64, rfl⟩
abbrev main_call0_v40 : Ref sig .tc := ⟨.hbm, 65, rfl⟩
abbrev main_call0_v41 : Ref sig .tc := ⟨.hbm, 66, rfl⟩
abbrev main_call0_c_13 : Ref sig .tc := ⟨.hbm, 67, rfl⟩
abbrev main_call0_v42 : Ref sig .tc := ⟨.hbm, 68, rfl⟩
abbrev main_call0_v43 : Ref sig .tc := ⟨.hbm, 69, rfl⟩
abbrev main_call0_v44 : Ref sig .tc := ⟨.hbm, 70, rfl⟩
abbrev main_call0_v45 : Ref sig .tc := ⟨.hbm, 71, rfl⟩
abbrev main_call0_v46 : Ref sig .tc := ⟨.hbm, 72, rfl⟩
abbrev main_call0_v47 : Ref sig .tc := ⟨.hbm, 73, rfl⟩
abbrev main_call0_v48 : Ref sig .tc := ⟨.hbm, 74, rfl⟩
abbrev main_call0_c_14 : Ref sig .tc := ⟨.hbm, 75, rfl⟩
abbrev main_call0_v49 : Ref sig .tc := ⟨.hbm, 76, rfl⟩
abbrev main_call0_v50 : Ref sig .tc := ⟨.hbm, 77, rfl⟩
abbrev main_call0_c_15 : Ref sig .tc := ⟨.hbm, 78, rfl⟩
abbrev main_call0_v51 : Ref sig .tc := ⟨.hbm, 79, rfl⟩
abbrev main_call0_v52 : Ref sig .tc := ⟨.hbm, 80, rfl⟩
abbrev main_call0_c_16 : Ref sig .tc := ⟨.hbm, 81, rfl⟩
abbrev main_call0_v53 : Ref sig .tc := ⟨.hbm, 82, rfl⟩
abbrev main_call0_v54 : Ref sig .tc := ⟨.hbm, 83, rfl⟩
abbrev main_call0_v55 : Ref sig .tc := ⟨.hbm, 84, rfl⟩
abbrev main_call0_c_17 : Ref sig .tc := ⟨.hbm, 85, rfl⟩
abbrev main_call0_v56 : Ref sig .tc := ⟨.hbm, 86, rfl⟩
abbrev main_call0_v57 : Ref sig .tc := ⟨.hbm, 87, rfl⟩
abbrev main_call0_c_18 : Ref sig .tc := ⟨.hbm, 88, rfl⟩
abbrev main_call0_v58 : Ref sig .tc := ⟨.hbm, 89, rfl⟩
abbrev main_call0_v59 : Ref sig .tc := ⟨.hbm, 90, rfl⟩
abbrev main_call0_v60 : Ref sig .tc := ⟨.hbm, 91, rfl⟩
abbrev main_call0_v61 : Ref sig .tc := ⟨.hbm, 92, rfl⟩
abbrev main_call0_v62 : Ref sig .tc := ⟨.hbm, 93, rfl⟩
abbrev main_call0_v63 : Ref sig .tc := ⟨.hbm, 94, rfl⟩
abbrev main_call0_v64 : Ref sig .tc := ⟨.hbm, 95, rfl⟩
abbrev main_call0_cst : Ref sig .tc := ⟨.hbm, 96, rfl⟩
abbrev main_call0_cst_19 : Ref sig .tc := ⟨.hbm, 97, rfl⟩
abbrev main_call0_v65 : Ref sig .tc := ⟨.hbm, 98, rfl⟩
abbrev main_call0_v66 : Ref sig .tc := ⟨.hbm, 99, rfl⟩
abbrev main_call0_v67 : Ref sig .tc := ⟨.hbm, 100, rfl⟩
abbrev main_call0_v68 : Ref sig .tc := ⟨.hbm, 101, rfl⟩
abbrev main_call0_v69 : Ref sig .tc := ⟨.hbm, 102, rfl⟩
abbrev main_call0_v70 : Ref sig .tc := ⟨.hbm, 103, rfl⟩
abbrev main_call0_v71 : Ref sig .tc := ⟨.hbm, 104, rfl⟩
abbrev main_call0_cst_20 : Ref sig .tc := ⟨.hbm, 105, rfl⟩
abbrev main_call0_cst_21 : Ref sig .tc := ⟨.hbm, 106, rfl⟩
abbrev main_call0_call1_v0 : Ref sig .tc := ⟨.hbm, 107, rfl⟩
abbrev main_call0_call1_v1 : Ref sig .tc := ⟨.hbm, 108, rfl⟩
abbrev main_call0_v72 : Ref sig .tc := ⟨.hbm, 109, rfl⟩
abbrev main_call0_v73 : Ref sig .tc := ⟨.hbm, 110, rfl⟩
abbrev main_call0_v74 : Ref sig .tc := ⟨.hbm, 111, rfl⟩
abbrev main_call0_cst_22 : Ref sig .tc := ⟨.hbm, 112, rfl⟩
abbrev main_call0_cst_23 : Ref sig .tc := ⟨.hbm, 113, rfl⟩
abbrev main_call0_call2_v0 : Ref sig .tc := ⟨.hbm, 114, rfl⟩
abbrev main_call0_call2_v1 : Ref sig .tc := ⟨.hbm, 115, rfl⟩
abbrev main_call0_v75 : Ref sig .tc := ⟨.hbm, 116, rfl⟩
abbrev main_call0_v76 : Ref sig .tc := ⟨.hbm, 117, rfl⟩
abbrev main_call0_cst_24 : Ref sig .tc := ⟨.hbm, 118, rfl⟩
abbrev main_call0_v77 : Ref sig .tc := ⟨.hbm, 119, rfl⟩
abbrev main_call0_v78 : Ref sig .tc := ⟨.hbm, 120, rfl⟩
abbrev main_call0_cst_25 : Ref sig .tc := ⟨.hbm, 121, rfl⟩
abbrev main_call0_cst_26 : Ref sig .tc := ⟨.hbm, 122, rfl⟩
abbrev main_call0_call3_v0 : Ref sig .tc := ⟨.hbm, 123, rfl⟩
abbrev main_call0_call3_v1 : Ref sig .tc := ⟨.hbm, 124, rfl⟩
abbrev main_call0_v79 : Ref sig .tc := ⟨.hbm, 125, rfl⟩
abbrev main_call0_cst_27 : Ref sig .tc := ⟨.hbm, 126, rfl⟩
abbrev main_call0_v80 : Ref sig .tc := ⟨.hbm, 127, rfl⟩
abbrev main_call0_v81 : Ref sig .tc := ⟨.hbm, 128, rfl⟩
abbrev main_call0_cst_28 : Ref sig .tc := ⟨.hbm, 129, rfl⟩
abbrev main_call0_cst_29 : Ref sig .tc := ⟨.hbm, 130, rfl⟩
abbrev main_call0_call4_v0 : Ref sig .tc := ⟨.hbm, 131, rfl⟩
abbrev main_call0_call4_v1 : Ref sig .tc := ⟨.hbm, 132, rfl⟩
abbrev main_call0_v82 : Ref sig .tc := ⟨.hbm, 133, rfl⟩
abbrev main_call0_v83 : Ref sig .tc := ⟨.hbm, 134, rfl⟩
abbrev main_call0_v84 : Ref sig .tc := ⟨.hbm, 135, rfl⟩
abbrev main_call0_v85 : Ref sig .tc := ⟨.hbm, 136, rfl⟩
abbrev main_call0_cst_30 : Ref sig .tc := ⟨.hbm, 137, rfl⟩
abbrev main_call0_v86 : Ref sig .tc := ⟨.hbm, 138, rfl⟩
abbrev main_call0_v87 : Ref sig .tc := ⟨.hbm, 139, rfl⟩
abbrev main_call0_cst_31 : Ref sig .tc := ⟨.hbm, 140, rfl⟩
abbrev main_call0_cst_32 : Ref sig .tc := ⟨.hbm, 141, rfl⟩
abbrev main_call0_call5_v0 : Ref sig .tc := ⟨.hbm, 142, rfl⟩
abbrev main_call0_call5_v1 : Ref sig .tc := ⟨.hbm, 143, rfl⟩
abbrev main_call0_v88 : Ref sig .tc := ⟨.hbm, 144, rfl⟩
abbrev main_call0_v89 : Ref sig .tc := ⟨.hbm, 145, rfl⟩
abbrev main_call0_v90 : Ref sig .tc := ⟨.hbm, 146, rfl⟩
abbrev main_call0_v91 : Ref sig .tc := ⟨.hbm, 147, rfl⟩
abbrev main_call0_v92 : Ref sig .tc := ⟨.hbm, 148, rfl⟩
abbrev main_call0_v93 : Ref sig .tc := ⟨.hbm, 149, rfl⟩
abbrev main_call0_v94 : Ref sig .tc := ⟨.hbm, 150, rfl⟩
abbrev main_call0_cst_33 : Ref sig .tc := ⟨.hbm, 151, rfl⟩
abbrev main_call0_v95 : Ref sig .tc := ⟨.hbm, 152, rfl⟩
abbrev main_call0_v96 : Ref sig .tc := ⟨.hbm, 153, rfl⟩
abbrev main_call0_c_34 : Ref sig .tc := ⟨.hbm, 154, rfl⟩
abbrev main_call0_v97 : Ref sig .tc := ⟨.hbm, 155, rfl⟩
abbrev main_call0_v98 : Ref sig .tc := ⟨.hbm, 156, rfl⟩
abbrev main_call0_c_35 : Ref sig .tc := ⟨.hbm, 157, rfl⟩
abbrev main_call0_v99 : Ref sig .tc := ⟨.hbm, 158, rfl⟩
abbrev main_call0_v100 : Ref sig .tc := ⟨.hbm, 159, rfl⟩
abbrev main_call0_v101 : Ref sig .tc := ⟨.hbm, 160, rfl⟩
abbrev main_call0_v102 : Ref sig .tc := ⟨.hbm, 161, rfl⟩
abbrev main_call0_v103 : Ref sig .tc := ⟨.hbm, 162, rfl⟩
abbrev main_call0_v104 : Ref sig .tc := ⟨.hbm, 163, rfl⟩
abbrev main_call0_v105 : Ref sig .tc := ⟨.hbm, 164, rfl⟩
abbrev main_call0_v106 : Ref sig .tc := ⟨.hbm, 165, rfl⟩
abbrev main_call0_c_36 : Ref sig .tc := ⟨.hbm, 166, rfl⟩
abbrev main_call0_v107 : Ref sig .tc := ⟨.hbm, 167, rfl⟩
abbrev main_call0_v108 : Ref sig .tc := ⟨.hbm, 168, rfl⟩
abbrev main_call0_c_37 : Ref sig .tc := ⟨.hbm, 169, rfl⟩
abbrev main_call0_v109 : Ref sig .tc := ⟨.hbm, 170, rfl⟩
abbrev main_call0_v110 : Ref sig .tc := ⟨.hbm, 171, rfl⟩
abbrev main_call0_v111 : Ref sig .tc := ⟨.hbm, 172, rfl⟩
abbrev main_call0_v112 : Ref sig .tc := ⟨.hbm, 173, rfl⟩
abbrev main_call0_v113 : Ref sig .tc := ⟨.hbm, 174, rfl⟩
abbrev main_call0_cst_38 : Ref sig .tc := ⟨.hbm, 175, rfl⟩
abbrev main_call0_v114 : Ref sig .tc := ⟨.hbm, 176, rfl⟩
abbrev main_call0_v115 : Ref sig .tc := ⟨.hbm, 177, rfl⟩
abbrev main_call0_v116 : Ref sig .tc := ⟨.hbm, 178, rfl⟩
abbrev main_call0_cst_39 : Ref sig .tc := ⟨.hbm, 179, rfl⟩
abbrev main_call0_v117 : Ref sig .tc := ⟨.hbm, 180, rfl⟩
abbrev main_call0_v118 : Ref sig .tc := ⟨.hbm, 181, rfl⟩
abbrev main_call0_v119 : Ref sig .tc := ⟨.hbm, 182, rfl⟩
abbrev main_v0_0 : Ref sig .tc := ⟨.hbm, 183, rfl⟩
abbrev main_call0_cst_40 : Ref sig .tc := ⟨.hbm, 184, rfl⟩
abbrev main_call0_call6_v0 : Ref sig .tc := ⟨.hbm, 185, rfl⟩
abbrev main_call0_call6_v1 : Ref sig .tc := ⟨.hbm, 186, rfl⟩
abbrev main_v0_1 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![8, 4], ![false, false]⟩

def k0_cond1 (i : grid0.Coords) : BitVec 1 :=
  let arg1 : BitVec 32 := BitVec.ofNat 32 (i 1).val
  let c0_i32_12 : BitVec 32 := 0#32
  let v51 : BitVec 1 := Scalar.cmpi .eq arg1 c0_i32_12
  let v52 : BitVec 32 := Scalar.extui v51
  let c0_i32_13 : BitVec 32 := 0#32
  let v53 : BitVec 1 := Scalar.cmpi .ne v52 c0_i32_13
  v53

def k0_cond2 (i : grid0.Coords) : BitVec 1 :=
  let arg1 : BitVec 32 := BitVec.ofNat 32 (i 1).val
  let c0_i32_14 : BitVec 32 := 0#32
  let v54 : BitVec 1 := Scalar.cmpi .sgt arg1 c0_i32_14
  let v55 : BitVec 32 := Scalar.extui v54
  let c0_i32_15 : BitVec 32 := 0#32
  let v56 : BitVec 1 := Scalar.cmpi .ne v55 c0_i32_15
  v56

def k0_cond3 (i : grid0.Coords) : BitVec 1 :=
  let arg1 : BitVec 32 := BitVec.ofNat 32 (i 1).val
  let c3_i32 : BitVec 32 := 3#32
  let v57 : BitVec 1 := Scalar.cmpi .eq arg1 c3_i32
  let v58 : BitVec 32 := Scalar.extui v57
  let c0_i32_16 : BitVec 32 := 0#32
  let v59 : BitVec 1 := Scalar.cmpi .ne v58 c0_i32_16
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "two_over_pi" => some ((2 * Real.pi⁻¹ : ℝ) : EReal)
  | _ => none
-- ==== ReferenceIdeal.lean ====
abbrev S16384x1024 : Shape := ⟨2, ![16384, 1024]⟩
abbrev S_ : Shape := ⟨0, ![]⟩
abbrev S1024 : Shape := ⟨1, ![1024]⟩
abbrev S16383x1024 : Shape := ⟨2, ![16383, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S16384x1024, .f32⟩
  | .hbm, ⟨15, _⟩ => ⟨S16383x1024, .f32⟩
  | .hbm, ⟨16, _⟩ => ⟨S16383x1024, .f32⟩
  | .hbm, ⟨17, _⟩ => ⟨S16383x1024, .f32⟩
  | .hbm, ⟨18, _⟩ => ⟨S16383x1024, .f32⟩
  | .hbm, ⟨19, _⟩ => ⟨S16383x1024, .i1⟩
  | .hbm, ⟨20, _⟩ => ⟨S_, .f32⟩
  | .hbm, ⟨21, _⟩ => ⟨S_, .f32⟩
  | .hbm, ⟨22, _⟩ => ⟨S16383x1024, .f32⟩
  | .hbm, ⟨23, _⟩ => ⟨S16383x1024, .f32⟩
  | .hbm, ⟨24, _⟩ => ⟨S16383x1024, .f32⟩
  | .hbm, ⟨25, _⟩ => ⟨S_, .f32⟩
  | .hbm, ⟨26, _⟩ => ⟨S16383x1024, .f32⟩
  | .hbm, ⟨27, _⟩ => ⟨S16383x1024, .i1⟩
  | .hbm, ⟨28, _⟩ => ⟨S_, .f32⟩
  | .hbm, ⟨29, _⟩ => ⟨S_, .f32⟩
  | .hbm, ⟨30, _⟩ => ⟨S16383x1024, .f32⟩
  | .hbm, ⟨31, _⟩ => ⟨S16383x1024, .f32⟩
  | .hbm, ⟨32, _⟩ => ⟨S16383x1024, .f32⟩
  | .hbm, ⟨33, _⟩ => ⟨S_, .f32⟩
  | .hbm, ⟨34, _⟩ => ⟨S1024, .f32⟩
  | .hbm, ⟨35, _⟩ => ⟨S_, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .i1⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .i1⟩
  | .hbm, ⟨46, _⟩ => ⟨S1024, .i1⟩
  | .hbm, ⟨47, _⟩ => ⟨S_, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1024, .i32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_call3_v0 : Ref sig .tc := ⟨.hbm, 48, rfl⟩
abbrev main_call3_v1 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Proof.Run.lean ====
/- The kernel's run over its grid, at any values: the body's triple in each of its three cases (the first
   block of a column tile, a middle block, the last block), with the contents of its outputs and of its two
   scratch rows named. -/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Vortex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first row of a carried scratch buffer. -/
def topRow (d : Vec F S8x128 .f32) : Vec F S1x128 .f32 := fun k => d fun a => ⟨(k a).val, by
  have h := (k a).isLt
  match a with
  | 0 => exact lt_trans h (by decide)
  | 1 => exact h⟩

/-- The base row of block `i 1`, as a word. -/
abbrev baseWord (i : grid0.Coords) : BitVec 32 := Scalar.muli (BitVec.ofNat 32 (i 1).val) 4096#32

theorem hz : (![0, 0] : Fin 2 → Nat) = fun _ => 0 := funext fun a => by fin_cases a <;> rfl

/-- A buffer of one row, read after a store that covers it, holds what was stored. -/
theorem read_whole_store {κ : Kind} {sp : Space} {e : EltTy} (v : View sig κ sp S1x128 e) (f : v.ty.Contents (Elt F))
    (inb : ∀ a, (![0, 0] : Fin 2 → Nat) a + S1x128.size a ≤ S1x128.size a) (w : S1x128.Idx → Elt F e)
    (L : List (View.Piece (Elt F) S1x128 e)) :
    v.read (Elt F) (v.writes (Elt F) f (⟨Rect.unit (s := S1x128) ![0, 0] S1x128.size inb, w⟩ :: L)) = w := by
  funext y
  have h := View.read_writes_cons_emb (v := v) (f := f) (Rect.unit (s := S1x128) ![0, 0] S1x128.size inb) w L y
  have he : (Rect.unit (s := S1x128) ![0, 0] S1x128.size inb).emb y = y := by
    funext a; apply Fin.ext; fin_cases a <;> simp [Rect.emb, Rect.unit]
  rwa [he] at h

/-- The place of a scratch buffer's first row. -/
theorem emb_top (inb : ∀ a, (![0, 0] : Fin 2 → Nat) a + S1x128.size a ≤ S8x128.size a) (k : S1x128.Idx) :
    (Rect.unit (s := S8x128) ![0, 0] S1x128.size inb).emb k = fun a => ⟨(k a).val, by
      have h := (k a).isLt
      match a with
      | 0 => exact lt_trans h (by decide)
      | 1 => exact h⟩ := by
  funext a; apply Fin.ext; fin_cases a <;> simp [Rect.emb, Rect.unit]

/-- A load of the first row of a scratch buffer. -/
theorem ld_top (d : Vec F S8x128 .f32)
    (inb : ∀ a, (![0, 0] : Fin 2 → Nat) a + S1x128.size a ≤ S8x128.size a) :
    View.ld d (Rect.unit (s := S8x128) ![0, 0] S1x128.size inb) = topRow d := by
  funext k
  show d ((Rect.unit (s := S8x128) ![0, 0] S1x128.size inb).emb k) = _
  rw [emb_top]; rfl

/-- The same with the sizes spelt out: a load of the first row of a scratch buffer. -/
theorem ld_top' (d : Vec F S8x128 .f32)
    (inb : ∀ a, (![0, 0] : Fin 2 → Nat) a + (![1, 128] : Fin 2 → Nat) a ≤ S8x128.size a) :
    View.ld d (Rect.unit (s := S8x128) ![0, 0] ![1, 128] inb) = topRow d :=
  ld_top d inb

/-- The first row of a scratch buffer after a store to it. -/
theorem top_store {κ : Kind} {sp : Space} (v : View sig κ sp S8x128 .f32) (f : v.ty.Contents (Elt F))
    (inb : ∀ a, (![0, 0] : Fin 2 → Nat) a + S1x128.size a ≤ S8x128.size a) (w : S1x128.Idx → Elt F .f32)
    (L : List (View.Piece (Elt F) S8x128 .f32)) :
    topRow (v.read (Elt F) (v.writes (Elt F) f (⟨Rect.unit (s := S8x128) ![0, 0] S1x128.size inb, w⟩ :: L))) = w := by
  funext k
  have h := View.read_writes_cons_emb (v := v) (f := f) (Rect.unit (s := S8x128) ![0, 0] S1x128.size inb) w L k
  rw [emb_top] at h
  exact h

set_option maxHeartbeats 1000000 in
/-- The first block of a column tile: the outputs are started, whatever the scratch held. -/
theorem run_first (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .i32) (harg6 : arg6.IsWhole) (arg7 : Memref sig .tc .vmem S8x128 .f32) (harg7 : arg7.IsWhole) (arg8 : Memref sig .tc .vmem S8x128 .f32) (harg8 : arg8.IsWhole)
    (hc0 : k0_cond1 i = 1#1) (hc1 : ¬k0_cond2 i = 1#1) (hc2 : ¬k0_cond3 i = 1#1)
    (x0 x1 : Vec F S4096x128 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1
                ∗ owns (c : Thread nD τ) arg4 fullShare (k0_pay2 (k0_pay18 x0 x1))
                ∗ owns (c : Thread nD τ) arg5 fullShare (k0_pay3 x0 x1 (k0_pay23 x0 x1))
                ∗ owns (c : Thread nD τ) arg6 fullShare (k0_pay4 (k0_pay24 x0 x1) (baseWord i) k0_pay25)
                ∗ (∃ d, ⌜topRow d = k0_pay8 x0⌝ ∗ owns (c : Thread nD τ) arg7 fullShare d) ∗ (∃ d, ⌜topRow d = k0_pay9 x1⌝ ∗ owns (c : Thread nD τ) arg8 fullShare d)) -∗ K ⟨⟩))
          ⊢ wp frame (wpE (defs₀ (F := F)) Variants.none c none) E (cc0__vortex_block i arg2 harg2 arg3 harg3 arg4 harg4 arg5 harg5 arg6 harg6 arg7 harg7 arg8 harg8) K := by
    intro E K
    simp only [cc0__vortex_block_eq_skeleton]; unfold cc0__vortex_block_skel
    simp only [k0_part2_eq_skeleton, k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, Hk⟩
    obtain rfl := harg2.eq_unread hf0; obtain rfl := harg3.eq_unread hf1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      refine (read_whole_store _ _ _ _ _).trans ?_
      sl_unfold_words
      simp only [View.readCov_unit_zero (S := S1x128) _ hz, View.readAt_eq_ld, ld_top, ld_top', View.ld_unit_zero (S := S4096x128) hz, View.ld_unit_zero (S := S1x128) hz, harg2.read_unread, harg3.read_unread]
    isplitl [H3]
    · iexists _; isplitr; swap; · iexact H3
      ipureintro
      refine (read_whole_store _ _ _ _ _).trans ?_
      sl_unfold_words
      simp only [View.readCov_unit_zero (S := S1x128) _ hz, View.readAt_eq_ld, ld_top, ld_top', View.ld_unit_zero (S := S4096x128) hz, View.ld_unit_zero (S := S1x128) hz, harg2.read_unread, harg3.read_unread]
    isplitl [H4]
    · iexists _; isplitr; swap; · iexact H4
      ipureintro
      refine (read_whole_store _ _ _ _ _).trans ?_
      sl_unfold_words
      simp only [View.readCov_unit_zero (S := S1x128) _ hz, View.readAt_eq_ld, ld_top, ld_top', View.ld_unit_zero (S := S4096x128) hz, View.ld_unit_zero (S := S1x128) hz, harg2.read_unread, harg3.read_unread]
    isplitl [HS0]
    · iexists _; isplitr; swap
      · iexists _; isplitr; swap; · iexact HS0
        ipureintro; rfl
      ipureintro
      refine (top_store _ _ _ _ _).trans ?_
      sl_unfold_words
      simp only [View.readAt_eq_ld, ld_top, ld_top', View.ld_unit_zero (S := S4096x128) hz, View.ld_unit_zero (S := S1x128) hz, harg2.read_unread, harg3.read_unread]
    · iexists _; isplitr; swap
      · iexists _; isplitr; swap; · iexact HS1
        ipureintro; rfl
      ipureintro
      refine (top_store _ _ _ _ _).trans ?_
      sl_unfold_words
      simp only [View.readAt_eq_ld, ld_top, ld_top', View.ld_unit_zero (S := S4096x128) hz, View.ld_unit_zero (S := S1x128) hz, harg2.read_unread, harg3.read_unread]

set_option maxHeartbeats 1000000 in
/-- A middle block: the outputs are added to, the pair across the block boundary by the carried row. -/
theorem run_middle (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .i32) (harg6 : arg6.IsWhole) (arg7 : Memref sig .tc .vmem S8x128 .f32) (harg7 : arg7.IsWhole) (arg8 : Memref sig .tc .vmem S8x128 .f32) (harg8 : arg8.IsWhole)
    (hc0 : ¬k0_cond1 i = 1#1) (hc1 : k0_cond2 i = 1#1) (hc2 : ¬k0_cond3 i = 1#1)
    (x0 x1 : Vec F S4096x128 .f32) (x2 x3 : Vec F S1x128 .f32) (x4 : Vec F S1x128 .i32) (s0 s1 : Vec F S8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare s0 ∗ owns (c : Thread nD τ) arg8 fullShare s1
            ∗ (iprop(owns (c : Thread nD τ) arg2 fullShare x0 ∗ owns (c : Thread nD τ) arg3 fullShare x1
                ∗ owns (c : Thread nD τ) arg4 fullShare (k0_pay15 (k0_pay18 x0 x1) x2)
                ∗ owns (c : Thread nD τ) arg5 fullShare (k0_pay5 (k0_pay16 x3) (k0_pay17 x0 x1 (k0_pay23 x0 x1) (topRow s0) (topRow s1)))
                ∗ owns (c : Thread nD τ) arg6 fullShare (k0_pay6 (k0_pay24 x0 x1) (baseWord i) k0_pay25 (k0_pay14 x0 x1 (baseWord i) (topRow s0) (topRow s1)) x4)
                ∗ (∃ d, ⌜topRow d = k0_pay8 x0⌝ ∗ owns (c : Thread nD τ) arg7 fullShare d) ∗ (∃ d, ⌜topRow d = k0_pay9 x1⌝ ∗ owns (c : Thread nD τ) arg8 fullShare d)) -∗ K ⟨⟩))
          ⊢ wp frame (wpE (defs₀ (F := F)) Variants.none c none) E (cc0__vortex_block i arg2 harg2 arg3 harg3 arg4 harg4 arg5 harg5 arg6 harg6 arg7 harg7 arg8 harg8) K := by
    intro E K
    simp only [cc0__vortex_block_eq_skeleton]; unfold cc0__vortex_block_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hf4
    obtain rfl := harg7.eq_unread hfs0; obtain rfl := harg8.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      refine (read_whole_store _ _ _ _ _).trans ?_
      sl_unfold_words
      simp only [View.readCov_unit_zero (S := S1x128) _ hz, View.readAt_eq_ld, ld_top, ld_top', View.ld_unit_zero (S := S4096x128) hz, View.ld_unit_zero (S := S1x128) hz, harg2.read_unread, harg3.read_unread, harg4.read_unread, harg5.read_unread, harg6.read_unread, harg7.read_unread, harg8.read_unread]
    isplitl [H3]
    · iexists _; isplitr; swap; · iexact H3
      ipureintro
      refine (read_whole_store _ _ _ _ _).trans ?_
      sl_unfold_words
      simp only [View.readCov_unit_zero (S := S1x128) _ hz, View.readAt_eq_ld, ld_top, ld_top', View.ld_unit_zero (S := S4096x128) hz, View.ld_unit_zero (S := S1x128) hz, harg2.read_unread, harg3.read_unread, harg4.read_unread, harg5.read_unread, harg6.read_unread, harg7.read_unread, harg8.read_unread]
    isplitl [H4]
    · iexists _; isplitr; swap; · iexact H4
      ipureintro
      refine (read_whole_store _ _ _ _ _).trans ?_
      sl_unfold_words
      simp only [View.readCov_unit_zero (S := S1x128) _ hz, View.readAt_eq_ld, ld_top, ld_top', View.ld_unit_zero (S := S4096x128) hz, View.ld_unit_zero (S := S1x128) hz, harg2.read_unread, harg3.read_unread, harg4.read_unread, harg5.read_unread, harg6.read_unread, harg7.read_unread, harg8.read_unread]
    isplitl [HS0]
    · iexists _; isplitr; swap
      · iexists _; isplitr; swap; · iexact HS0
        ipureintro; rfl
      ipureintro
      refine (top_store _ _ _ _ _).trans ?_
      sl_unfold_words
      simp only [View.readAt_eq_ld, ld_top, ld_top', View.ld_unit_zero (S := S4096x128) hz, View.ld_unit_zero (S := S1x128) hz, harg2.read_unread, harg3.read_unread, harg4.read_unread, harg5.read_unread, harg6.read_unread, harg7.read_unread, harg8.read_unread]
    · iexists _; isplitr; swap
      · iexists _; isplitr; swap; · iexact HS1
        ipureintro; rfl
      ipureintro
      refine (top_store _ _ _ _ _).trans ?_
      sl_unfold_words
      simp only [View.readAt_eq_ld, ld_top, ld_top', View.ld_unit_zero (S := S4096x128) hz, View.ld_unit_zero (S := S1x128) hz, harg2.read_unread, harg3.read_unread, harg4.read_unread, harg5.read_unread, harg6.read_unread, harg7.read_unread, harg8.read_unread]

set_option maxHeartbeats 1000000 in
/-- The last block: as a middle block, and the winding sum is finished. -/
theorem run_last (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .i32) (harg6 : arg6.IsWhole) (arg7 : Memref sig .tc .vmem S8x128 .f32) (harg7 : arg7.IsWhole) (arg8 : Memref sig .tc .vmem S8x128 .f32) (harg8 : arg8.IsWhole)
    (hc0 : ¬k0_cond1 i = 1#1) (hc1 : k0_cond2 i = 1#1) (hc2 : k0_cond3 i = 1#1)
    (x0 x1 : Vec F S4096x128 .f32) (x2 x3 : Vec F S1x128 .f32) (x4 : Vec F S1x128 .i32) (s0 s1 : Vec F S8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare s0 ∗ owns (c : Thread nD τ) arg8 fullShare s1
            ∗ (iprop(owns (c : Thread nD τ) arg2 fullShare x0 ∗ owns (c : Thread nD τ) arg3 fullShare x1
                ∗ owns (c : Thread nD τ) arg4 fullShare (k0_pay15 (k0_pay18 x0 x1) x2)
                ∗ owns (c : Thread nD τ) arg5 fullShare (k0_pay7 x0 x1 (k0_pay5 (k0_pay16 x3) (k0_pay17 x0 x1 (k0_pay23 x0 x1) (topRow s0) (topRow s1))))
                ∗ owns (c : Thread nD τ) arg6 fullShare (k0_pay6 (k0_pay24 x0 x1) (baseWord i) k0_pay25 (k0_pay14 x0 x1 (baseWord i) (topRow s0) (topRow s1)) x4)
                ∗ (∃ d, ⌜topRow d = k0_pay8 x0⌝ ∗ owns (c : Thread nD τ) arg7 fullShare d) ∗ (∃ d, ⌜topRow d = k0_pay9 x1⌝ ∗ owns (c : Thread nD τ) arg8 fullShare d)) -∗ K ⟨⟩))
          ⊢ wp frame (wpE (defs₀ (F := F)) Variants.none c none) E (cc0__vortex_block i arg2 harg2 arg3 harg3 arg4 harg4 arg5 harg5 arg6 harg6 arg7 harg7 arg8 harg8) K := by
    intro E K
    simp only [cc0__vortex_block_eq_skeleton]; unfold cc0__vortex_block_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hf4
    obtain rfl := harg7.eq_unread hfs0; obtain rfl := harg8.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      refine (read_whole_store _ _ _ _ _).trans ?_
      sl_unfold_words
      simp only [View.readCov_unit_zero (S := S1x128) _ hz, View.readAt_eq_ld, ld_top, ld_top', View.ld_unit_zero (S := S4096x128) hz, View.ld_unit_zero (S := S1x128) hz, harg2.read_unread, harg3.read_unread, harg4.read_unread, harg5.read_unread, harg6.read_unread, harg7.read_unread, harg8.read_unread]
    isplitl [H3]
    · iexists _; isplitr; swap; · iexact H3
      ipureintro
      refine (read_whole_store _ _ _ _ _).trans ?_
      sl_unfold_words
      simp only [View.readCov_unit_zero (S := S1x128) _ hz, View.readAt_eq_ld, ld_top, ld_top', View.ld_unit_zero (S := S4096x128) hz, View.ld_unit_zero (S := S1x128) hz, harg2.read_unread, harg3.read_unread, harg4.read_unread, harg5.read_unread, harg6.read_unread, harg7.read_unread, harg8.read_unread]
    isplitl [H4]
    · iexists _; isplitr; swap; · iexact H4
      ipureintro
      refine (read_whole_store _ _ _ _ _).trans ?_
      sl_unfold_words
      simp only [View.readCov_unit_zero (S := S1x128) _ hz, View.readAt_eq_ld, ld_top, ld_top', View.ld_unit_zero (S := S4096x128) hz, View.ld_unit_zero (S := S1x128) hz, harg2.read_unread, harg3.read_unread, harg4.read_unread, harg5.read_unread, harg6.read_unread, harg7.read_unread, harg8.read_unread]
    isplitl [HS0]
    · iexists _; isplitr; swap
      · iexists _; isplitr; swap; · iexact HS0
        ipureintro; rfl
      ipureintro
      refine (top_store _ _ _ _ _).trans ?_
      sl_unfold_words
      simp only [View.readAt_eq_ld, ld_top, ld_top', View.ld_unit_zero (S := S4096x128) hz, View.ld_unit_zero (S := S1x128) hz, harg2.read_unread, harg3.read_unread, harg4.read_unread, harg5.read_unread, harg6.read_unread, harg7.read_unread, harg8.read_unread]
    · iexists _; isplitr; swap
      · iexists _; isplitr; swap; · iexact HS1
        ipureintro; rfl
      ipureintro
      refine (top_store _ _ _ _ _).trans ?_
      sl_unfold_words
      simp only [View.readAt_eq_ld, ld_top, ld_top', View.ld_unit_zero (S := S4096x128) hz, View.ld_unit_zero (S := S1x128) hz, harg2.read_unread, harg3.read_unread, harg4.read_unread, harg5.read_unread, harg6.read_unread, harg7.read_unread, harg8.read_unread]

end Cert.KernelIdeal.Vortex

end
-- ==== Proof.Region.lean ====
/- The kernel's run over its grid: what its three outputs hold after each point, by recursion on the point, the
   carried rows as the invariant between points, and the launch with the host lines after the region. -/
module

public import proofs.«01_k».proof.Proof.Run
public import Idealize.ShloMosaic.Lib.Claim

@[expose] public section

set_option maxRecDepth 16384

noncomputable section

namespace Cert.KernelIdeal.Vortex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the outputs hold after each point -/

/-- The `|psi|` sums after point `n`. -/
def meanAt (c : Dev nD) : (n : ℕ) → n < cfg0.N → Vec F S1x128 .f32
  | 0, h => k0_pay2 (k0_pay18 (iblk m c 0 ⟨0, h⟩) (iblk m c 1 ⟨0, h⟩))
  | n + 1, h =>
    if (n + 1) % 4 = 0 then k0_pay2 (k0_pay18 (iblk m c 0 ⟨n + 1, h⟩) (iblk m c 1 ⟨n + 1, h⟩))
    else k0_pay15 (k0_pay18 (iblk m c 0 ⟨n + 1, h⟩) (iblk m c 1 ⟨n + 1, h⟩)) (meanAt c n (Nat.lt_of_succ_lt h))

/-- A block's part added to a winding sum: its own pairs, and the pair across the boundary to the block before. -/
def windAdd (x0 x1 : Vec F S4096x128 .f32) (p0 p1 : Vec F S1x128 .f32) (acc : Vec F S1x128 .f32) : Vec F S1x128 .f32 :=
  k0_pay5 (k0_pay16 acc) (k0_pay17 x0 x1 (k0_pay23 x0 x1) p0 p1)

/-- The winding sums after point `n`; finished at the last block of a column tile. -/
def windAt (c : Dev nD) : (n : ℕ) → n < cfg0.N → Vec F S1x128 .f32
  | 0, h => k0_pay3 (iblk m c 0 ⟨0, h⟩) (iblk m c 1 ⟨0, h⟩) (k0_pay23 (iblk m c 0 ⟨0, h⟩) (iblk m c 1 ⟨0, h⟩))
  | n + 1, h =>
    if (n + 1) % 4 = 0 then
      k0_pay3 (iblk m c 0 ⟨n + 1, h⟩) (iblk m c 1 ⟨n + 1, h⟩) (k0_pay23 (iblk m c 0 ⟨n + 1, h⟩) (iblk m c 1 ⟨n + 1, h⟩))
    else if (n + 1) % 4 = 3 then
      k0_pay7 (iblk m c 0 ⟨n + 1, h⟩) (iblk m c 1 ⟨n + 1, h⟩)
        (windAdd (iblk m c 0 ⟨n + 1, h⟩) (iblk m c 1 ⟨n + 1, h⟩) (k0_pay8 (iblk m c 0 ⟨n, Nat.lt_of_succ_lt h⟩))
          (k0_pay9 (iblk m c 1 ⟨n, Nat.lt_of_succ_lt h⟩)) (windAt c n (Nat.lt_of_succ_lt h)))
    else
      windAdd (iblk m c 0 ⟨n + 1, h⟩) (iblk m c 1 ⟨n + 1, h⟩) (k0_pay8 (iblk m c 0 ⟨n, Nat.lt_of_succ_lt h⟩))
        (k0_pay9 (iblk m c 1 ⟨n, Nat.lt_of_succ_lt h⟩)) (windAt c n (Nat.lt_of_succ_lt h))

/-- The last row next to the sign change so far, after point `n`. -/
def fixAt (c : Dev nD) : (n : ℕ) → n < cfg0.N → Vec F S1x128 .i32
  | 0, h => k0_pay4 (k0_pay24 (iblk m c 0 ⟨0, h⟩) (iblk m c 1 ⟨0, h⟩)) (baseWord (grid0.coords ⟨0, h⟩)) k0_pay25
  | n + 1, h =>
    if (n + 1) % 4 = 0 then
      k0_pay4 (k0_pay24 (iblk m c 0 ⟨n + 1, h⟩) (iblk m c 1 ⟨n + 1, h⟩)) (baseWord (grid0.coords ⟨n + 1, h⟩)) k0_pay25
    else
      k0_pay6 (k0_pay24 (iblk m c 0 ⟨n + 1, h⟩) (iblk m c 1 ⟨n + 1, h⟩)) (baseWord (grid0.coords ⟨n + 1, h⟩)) k0_pay25
        (k0_pay14 (iblk m c 0 ⟨n + 1, h⟩) (iblk m c 1 ⟨n + 1, h⟩) (baseWord (grid0.coords ⟨n + 1, h⟩))
          (k0_pay8 (iblk m c 0 ⟨n, Nat.lt_of_succ_lt h⟩)) (k0_pay9 (iblk m c 1 ⟨n, Nat.lt_of_succ_lt h⟩)))
        (fixAt c n (Nat.lt_of_succ_lt h))

/-! ## The proof data -/

abbrev carry0 : Memref sig .tc .vmem S8x128 .f32 := Memref.whole cc0_scratch0
abbrev carry1 : Memref sig .tc .vmem S8x128 .f32 := Memref.whole cc0_scratch1

/-- The scoped rest and the generator register, the two scratch buffers as memrefs. -/
theorem rest_eq (c : Dev nD) :
    (Pipeline.ΦA spec0 c : sProp 𝕄)
      = iprop(iprop((∃ d, owns (c : Thread nD τ) carry0 fullShare d) ∗ (∃ d, owns (c : Thread nD τ) carry1 fullShare d)) ∗ (∃ r, prngReg c r)) := by
  unfold Pipeline.ΦA; rw [scopedRest0_eq]; simp only [carry0, carry1, owns_whole]; try rfl

/-- What the carried rows hold when `n` points are done: the last row of the block before. -/
def Carried (c : Dev nD) (n : ℕ) (s0 s1 : Vec F S8x128 .f32) : Prop :=
  ∀ k (hk : k < cfg0.N), n = k + 1 → topRow s0 = k0_pay8 (iblk m c 0 ⟨k, hk⟩) ∧ topRow s1 = k0_pay9 (iblk m c 1 ⟨k, hk⟩)

/-- The invariant between points. -/
def inv (c : Dev nD) (n : ℕ) : sProp 𝕄 :=
  iprop((∃ s0, ∃ s1, ⌜Carried m c n s0 s1⌝ ∗ owns (c : Thread nD τ) carry0 fullShare s0 ∗ owns (c : Thread nD τ) carry1 fullShare s1)
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => meanAt m c t.val t.isLt
    | ⟨3, _⟩ => windAt m c t.val t.isLt
    | ⟨4, _⟩ => fixAt m c t.val t.isLt
  Φ t := inv m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = meanAt m c t.val t.isLt := by dsimp only [dats]
theorem after_3 (c : Dev nD) (t : Fin cfg0.N) : (dats m 0 c).after 3 t = windAt m c t.val t.isLt := by dsimp only [dats]
theorem after_4 (c : Dev nD) (t : Fin cfg0.N) : (dats m 0 c).after 4 t = fixAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

theorem live_0 : ∀ t : Fin cfg0.N, cfg0.idle 0 (grid0.coords t) = false := fun _ => rfl
theorem live_1 : ∀ t : Fin cfg0.N, cfg0.idle 1 (grid0.coords t) = false := fun _ => rfl
/-- Every output is stored at every point: a block is the first of its column tile or a later one. -/
theorem idle_2 (i : grid0.Coords) : cfg0.idle 2 i = false := by
  show (!(k0_cond1 i == 1#1) && !(k0_cond2 i == 1#1)) = false
  simp only [k0_cond1, k0_cond2]; generalize i 1 = b; change Fin 4 at b; revert b; decide +kernel
theorem idle_3 (i : grid0.Coords) : cfg0.idle 3 i = false := by
  show (!(k0_cond1 i == 1#1) && !(k0_cond2 i == 1#1) && !(k0_cond3 i == 1#1)) = false
  have := idle_2 i
  rw [show cfg0.idle 2 i = (!(k0_cond1 i == 1#1) && !(k0_cond2 i == 1#1)) from rfl] at this
  rw [this]; rfl
theorem idle_4 (i : grid0.Coords) : cfg0.idle 4 i = false := idle_2 i
theorem live_2 : ∀ t : Fin cfg0.N, cfg0.idle 2 (grid0.coords t) = false := fun _ => idle_2 _
theorem live_3 : ∀ t : Fin cfg0.N, cfg0.idle 3 (grid0.coords t) = false := fun _ => idle_3 _
theorem live_4 : ∀ t : Fin cfg0.N, cfg0.idle 4 (grid0.coords t) = false := fun _ => idle_4 _

/-- After the first block of a column tile the outputs hold what the point before left in them. -/
theorem before_2 (c : Dev nD) (n : ℕ) (h : n + 1 < cfg0.N) (h0 : ¬(n + 1) % 4 = 0) (d) :
    (dats m 0 c).before 2 ⟨n + 1, h⟩ d = meanAt m c n (Nat.lt_of_succ_lt h) :=
  ((dats m 0 c).before_out_kept 2 rfl ⟨n + 1, h⟩ (Nat.succ_ne_zero n)
    (Bool.eq_false_iff.mpr fun hf => h0 (by have := (flush0_2 ⟨n, _⟩).mp hf; simp only [Nat.add_sub_cancel] at this; omega))
    idle_2 (fun _ _ => rfl) d).trans (after_2 m c ⟨n, Nat.lt_of_succ_lt h⟩)
theorem before_3 (c : Dev nD) (n : ℕ) (h : n + 1 < cfg0.N) (h0 : ¬(n + 1) % 4 = 0) (d) :
    (dats m 0 c).before 3 ⟨n + 1, h⟩ d = windAt m c n (Nat.lt_of_succ_lt h) :=
  ((dats m 0 c).before_out_kept 3 rfl ⟨n + 1, h⟩ (Nat.succ_ne_zero n)
    (Bool.eq_false_iff.mpr fun hf => h0 (by have := (flush0_3 ⟨n, _⟩).mp hf; simp only [Nat.add_sub_cancel] at this; omega))
    idle_3 (fun _ _ => rfl) d).trans (after_3 m c ⟨n, Nat.lt_of_succ_lt h⟩)
theorem before_4 (c : Dev nD) (n : ℕ) (h : n + 1 < cfg0.N) (h0 : ¬(n + 1) % 4 = 0) (d) :
    (dats m 0 c).before 4 ⟨n + 1, h⟩ d = fixAt m c n (Nat.lt_of_succ_lt h) :=
  ((dats m 0 c).before_out_kept 4 rfl ⟨n + 1, h⟩ (Nat.succ_ne_zero n)
    (Bool.eq_false_iff.mpr fun hf => h0 (by have := (flush0_4 ⟨n, _⟩).mp hf; simp only [Nat.add_sub_cancel] at this; omega))
    idle_4 (fun _ _ => rfl) d).trans (after_4 m c ⟨n, Nat.lt_of_succ_lt h⟩)

/-! ## The conditions of the body, at a point -/

theorem cond_first : ∀ t : Fin cfg0.N, k0_cond1 (grid0.coords t) = 1#1 ↔ t.val % 4 = 0 :=
  (by decide +kernel : ∀ t : Fin grid0.N, k0_cond1 (grid0.coords t) = 1#1 ↔ t.val % 4 = 0)
theorem cond_later : ∀ t : Fin cfg0.N, k0_cond2 (grid0.coords t) = 1#1 ↔ ¬t.val % 4 = 0 :=
  (by decide +kernel : ∀ t : Fin grid0.N, k0_cond2 (grid0.coords t) = 1#1 ↔ ¬t.val % 4 = 0)
theorem cond_last : ∀ t : Fin cfg0.N, k0_cond3 (grid0.coords t) = 1#1 ↔ t.val % 4 = 3 :=
  (by decide +kernel : ∀ t : Fin grid0.N, k0_cond3 (grid0.coords t) = 1#1 ↔ t.val % 4 = 3)

/-! ## The body's triple at a point -/

abbrev st0 (t : Fin cfg0.N) : Memref sig .tc .vmem S4096x128 .f32 := win0_0.stage (cfg0.slots t 0)
abbrev st1 (t : Fin cfg0.N) : Memref sig .tc .vmem S4096x128 .f32 := win0_1.stage (cfg0.slots t 1)
abbrev st2 (t : Fin cfg0.N) : Memref sig .tc .vmem S1x128 .f32 := win0_2.stage (cfg0.slots t 2)
abbrev st3 (t : Fin cfg0.N) : Memref sig .tc .vmem S1x128 .f32 := win0_3.stage (cfg0.slots t 3)
abbrev st4 (t : Fin cfg0.N) : Memref sig .tc .vmem S1x128 .i32 := win0_4.stage (cfg0.slots t 4)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_0 (c : Dev nD) (t : Fin cfg0.N) : (dats m 0 c).leavesExact 0 t = owns (c : Thread nD τ) (st0 t) fullShare (iblk m c 0 t) := by
  unfold Dat.leavesExact; rw [live_0 t, after_0]
theorem leaves_1 (c : Dev nD) (t : Fin cfg0.N) : (dats m 0 c).leavesExact 1 t = owns (c : Thread nD τ) (st1 t) fullShare (iblk m c 1 t) := by
  unfold Dat.leavesExact; rw [live_1 t, after_1]
theorem leaves_2 (c : Dev nD) (t : Fin cfg0.N) : (dats m 0 c).leavesExact 2 t = owns (c : Thread nD τ) (st2 t) fullShare (meanAt m c t.val t.isLt) := by
  unfold Dat.leavesExact; rw [live_2 t, after_2]
theorem leaves_3 (c : Dev nD) (t : Fin cfg0.N) : (dats m 0 c).leavesExact 3 t = owns (c : Thread nD τ) (st3 t) fullShare (windAt m c t.val t.isLt) := by
  unfold Dat.leavesExact; rw [live_3 t, after_3]
theorem leaves_4 (c : Dev nD) (t : Fin cfg0.N) : (dats m 0 c).leavesExact 4 t = owns (c : Thread nD τ) (st4 t) fullShare (fixAt m c t.val t.isLt) := by
  unfold Dat.leavesExact; rw [live_4 t, after_4]

/-- The rows left at a point are what the next point is to find. -/
theorem carried_next (c : Dev nD) (t : Fin cfg0.N) (s0 s1 : Vec F S8x128 .f32)
    (h0 : topRow s0 = k0_pay8 (iblk m c 0 t)) (h1 : topRow s1 = k0_pay9 (iblk m c 1 t)) : Carried m c (t.val + 1) s0 s1 := by
  intro k hk e
  obtain rfl : t = ⟨k, hk⟩ := Fin.ext (Nat.succ_injective e)
  exact ⟨h0, h1⟩

theorem meanAt_first (c : Dev nD) (t : Fin cfg0.N) (h : t.val % 4 = 0) :
    meanAt m c t.val t.isLt = k0_pay2 (k0_pay18 (iblk m c 0 t) (iblk m c 1 t)) := by
  obtain ⟨n, hn⟩ := t
  cases n with
  | zero => rfl
  | succ n => exact if_pos h
theorem windAt_first (c : Dev nD) (t : Fin cfg0.N) (h : t.val % 4 = 0) :
    windAt m c t.val t.isLt = k0_pay3 (iblk m c 0 t) (iblk m c 1 t) (k0_pay23 (iblk m c 0 t) (iblk m c 1 t)) := by
  obtain ⟨n, hn⟩ := t
  cases n with
  | zero => rfl
  | succ n => exact if_pos h
theorem fixAt_first (c : Dev nD) (t : Fin cfg0.N) (h : t.val % 4 = 0) :
    fixAt m c t.val t.isLt = k0_pay4 (k0_pay24 (iblk m c 0 t) (iblk m c 1 t)) (baseWord (grid0.coords t)) k0_pay25 := by
  obtain ⟨n, hn⟩ := t
  cases n with
  | zero => rfl
  | succ n => exact if_pos h

set_option maxHeartbeats 1200000 in
/-- The body at the first block of a column tile. -/
theorem sound_first (c : Dev nD) (t : Fin cfg0.N) (h0 : t.val % 4 = 0) :
    bodyPre m c t ⊢ wp frame (wpE (defs₀ (F := F)) Variants.none c none) Set.univ (bodyAt0 t) (fun _ => bodyPost m c t) := by
    unfold bodyPre bodyPost bodyAt0
    simp only [before_0, before_1]
    rw [leaves_0, leaves_1, leaves_2, leaves_3, leaves_4, meanAt_first m c t h0, windAt_first m c t h0, fixAt_first m c t h0,
      show (dats m 0 c).owesAt () t.succ = (dats m 0 c).owesAt () t.castSucc from rfl,
      show (dats m 0 c).Φ t.castSucc = inv m c t.val from rfl, show (dats m 0 c).Φ t.succ = inv m c (t.val + 1) from rfl]
    unfold inv
    iintro ⟨⟨⟨%s0, %s1, -, HS0, HS1⟩, Hg⟩, Ho, ⟨%d0, H0⟩, ⟨%d1, H1⟩, ⟨%d2, H2⟩, ⟨%d3, H3⟩, ⟨%d4, H4⟩⟩
    iapply ((run_first c (grid0.coords t) _ _ _ _ _ _ _ _ _ _ _ _ _ _ ((cond_first t).mpr h0) (fun h => (cond_later t).mp h h0) (fun h => by have := (cond_last t).mp h; omega) (iblk m c 0 t) (iblk m c 1 t)) Set.univ _)
    isplitl [H0]; · iexact H0
    isplitl [H1]; · iexact H1
    isplitl [H2]; · iexists _; iexact H2
    isplitl [H3]; · iexists _; iexact H3
    isplitl [H4]; · iexists _; iexact H4
    isplitl [HS0]; · iexists _; iexact HS0
    isplitl [HS1]; · iexists _; iexact HS1
    iintro ⟨H0, H1, H2, H3, H4, ⟨%e0, %he0, HS0⟩, ⟨%e1, %he1, HS1⟩⟩
    isplitl [HS0 HS1 Hg]
    · isplitl [HS0 HS1]
      · iexists e0, e1
        isplitr
        · ipureintro; exact carried_next m c _ e0 e1 he0 he1
        isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4

set_option maxHeartbeats 1200000 in
/-- The body at a middle block. -/
theorem sound_middle (c : Dev nD) (n : ℕ) (hn : n + 1 < cfg0.N) (h0 : ¬(n + 1) % 4 = 0) (h3 : ¬(n + 1) % 4 = 3) :
    bodyPre m c ⟨n + 1, hn⟩ ⊢ wp frame (wpE (defs₀ (F := F)) Variants.none c none) Set.univ (bodyAt0 ⟨n + 1, hn⟩) (fun _ => bodyPost m c ⟨n + 1, hn⟩) := by
    unfold bodyPre bodyPost bodyAt0
    simp only [before_0, before_1, before_2 m c n hn h0, before_3 m c n hn h0, before_4 m c n hn h0]
    rw [leaves_0, leaves_1, leaves_2, leaves_3, leaves_4,
      show (dats m 0 c).owesAt () (Fin.succ ⟨n + 1, hn⟩) = (dats m 0 c).owesAt () (Fin.castSucc ⟨n + 1, hn⟩) from rfl,
      show (dats m 0 c).Φ (Fin.castSucc ⟨n + 1, hn⟩) = inv m c (n + 1) from rfl, show (dats m 0 c).Φ (Fin.succ ⟨n + 1, hn⟩) = inv m c (n + 1 + 1) from rfl]
    simp only [meanAt, windAt, fixAt, if_neg h0, if_neg h3]
    unfold inv windAdd
    iintro ⟨⟨⟨%s0, %s1, %hs, HS0, HS1⟩, Hg⟩, Ho, ⟨%d0, H0⟩, ⟨%d1, H1⟩, ⟨%d2, H2⟩, ⟨%d3, H3⟩, ⟨%d4, H4⟩⟩
    obtain ⟨hs0, hs1⟩ := hs n (Nat.lt_of_succ_lt hn) rfl
    rw [← hs0, ← hs1]
    iapply ((run_middle c (grid0.coords ⟨n + 1, hn⟩) _ _ _ _ _ _ _ _ _ _ _ _ _ _ (fun h => h0 ((cond_first _).mp h)) ((cond_later _).mpr h0) (fun h => h3 ((cond_last _).mp h)) (iblk m c 0 ⟨n + 1, hn⟩) (iblk m c 1 ⟨n + 1, hn⟩) _ _ _ s0 s1) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%e0, %he0, HS0⟩, ⟨%e1, %he1, HS1⟩⟩
    isplitl [HS0 HS1 Hg]
    · isplitl [HS0 HS1]
      · iexists e0, e1
        isplitr
        · ipureintro; exact carried_next m c _ e0 e1 he0 he1
        isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4

set_option maxHeartbeats 1200000 in
/-- The body at the last block of a column tile. -/
theorem sound_last (c : Dev nD) (n : ℕ) (hn : n + 1 < cfg0.N) (h3 : (n + 1) % 4 = 3) :
    bodyPre m c ⟨n + 1, hn⟩ ⊢ wp frame (wpE (defs₀ (F := F)) Variants.none c none) Set.univ (bodyAt0 ⟨n + 1, hn⟩) (fun _ => bodyPost m c ⟨n + 1, hn⟩) := by
    have h0 : ¬(n + 1) % 4 = 0 := by omega
    unfold bodyPre bodyPost bodyAt0
    simp only [before_0, before_1, before_2 m c n hn h0, before_3 m c n hn h0, before_4 m c n hn h0]
    rw [leaves_0, leaves_1, leaves_2, leaves_3, leaves_4,
      show (dats m 0 c).owesAt () (Fin.succ ⟨n + 1, hn⟩) = (dats m 0 c).owesAt () (Fin.castSucc ⟨n + 1, hn⟩) from rfl,
      show (dats m 0 c).Φ (Fin.castSucc ⟨n + 1, hn⟩) = inv m c (n + 1) from rfl, show (dats m 0 c).Φ (Fin.succ ⟨n + 1, hn⟩) = inv m c (n + 1 + 1) from rfl]
    simp only [meanAt, windAt, fixAt, if_neg h0, if_pos h3]
    unfold inv windAdd
    iintro ⟨⟨⟨%s0, %s1, %hs, HS0, HS1⟩, Hg⟩, Ho, ⟨%d0, H0⟩, ⟨%d1, H1⟩, ⟨%d2, H2⟩, ⟨%d3, H3⟩, ⟨%d4, H4⟩⟩
    obtain ⟨hs0, hs1⟩ := hs n (Nat.lt_of_succ_lt hn) rfl
    rw [← hs0, ← hs1]
    iapply ((run_last c (grid0.coords ⟨n + 1, hn⟩) _ _ _ _ _ _ _ _ _ _ _ _ _ _ (fun h => h0 ((cond_first _).mp h)) ((cond_later _).mpr h0) ((cond_last _).mpr h3) (iblk m c 0 ⟨n + 1, hn⟩) (iblk m c 1 ⟨n + 1, hn⟩) _ _ _ s0 s1) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%e0, %he0, HS0⟩, ⟨%e1, %he1, HS1⟩⟩
    isplitl [HS0 HS1 Hg]
    · isplitl [HS0 HS1]
      · iexists e0, e1
        isplitr
        · ipureintro; exact carried_next m c _ e0 e1 he0 he1
        isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_first m c t h0
  obtain ⟨n, hn⟩ := t
  cases n with
  | zero => exact absurd rfl h0
  | succ n =>
    by_cases h3 : (n + 1) % 4 = 3
    · exact sound_last m c n hn h3
    · exact sound_middle m c n hn h0 h3

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

/-- At the start the scratch holds anything. -/
theorem inv_start (c : Dev nD) : (Pipeline.ΦA spec0 c : sProp 𝕄) ⊢ inv m c 0 := by
  rw [rest_eq]; unfold inv
  iintro ⟨⟨⟨%d0, H0⟩, ⟨%d1, H1⟩⟩, Hg⟩
  isplitl [H0 H1]
  · iexists d0, d1
    isplitr
    · ipureintro; intro k hk e; exact absurd e.symm (Nat.succ_ne_zero k)
    isplitl [H0]; · iexact H0
    iexact H1
  iexact Hg

/-- At the end it is given back, whatever it holds. -/
theorem inv_end (c : Dev nD) (n : ℕ) : inv m c n ⊢ (Pipeline.ΦA spec0 c : sProp 𝕄) := by
  rw [rest_eq]; unfold inv
  iintro ⟨⟨%d0, %d1, -, H0, H1⟩, Hg⟩
  isplitl [H0 H1]
  · isplitl [H0]; · iexists d0; iexact H0
    iexists d1; iexact H1
  iexact Hg

set_option backward.isDefEq.respectTransparency.types false in
set_option maxHeartbeats 800000 in
set_option maxRecDepth 18080 in
/-- Every run ends with the arrays at what the points wrote back, the other buffers at what the host lines after the
    region leave, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => inv_start m c) (hout := fun c => inv_end m c _)

/-- The frame: both arguments end as they began, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Vortex

end
-- ==== Proof.Frames.lean ====
/- The claims that say nothing of a value: the runs end with the arguments unchanged and every semaphore counter at zero,
   and the rules kept what the kernel's program computes. -/
module

public import proofs.«01_k».proof.Defs
public import proofs.«01_k».proof.Proof.Bits.Region
public import proofs.«01_k».proof.Proof.Region
public import proofs.«01_k».proof.Proof.Gen.ReferenceIdeal.Run
public import Idealize.ShloMosaic.Lib.Claim

@[expose] public section

noncomputable section

namespace Cert.Proof

open Idealize.ShloMosaic Idealize.SL.Sem

theorem frame_kernel : Cert.quiescent_Kernel := fun m ρ _ => Cert.Kernel.Vortex.frame m ρ

theorem frame_kernel_ideal : Cert.quiescent_KernelIdeal := fun m ρ _ => Cert.KernelIdeal.Vortex.frame m ρ

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem preserves : Cert.preserves_Kernel_KernelIdeal :=
  ⟨IdealRules.sign_bit.statement _ _, IdealRules.sign_bit.statement _ _, IdealRules.named_const.statement _ "two_over_pi" .f32 _ _ rfl⟩

end Cert.Proof

end
-- ==== Proof.Tail.lean ====
/- What the host lines after the kernel's call compute, as one term of the three arrays and the two arguments. -/
module

public import proofs.«01_k».proof.Proof.Gen.KernelIdeal.Frame
public import Idealize.ShloMosaic.Lib.StableHlo.Run

@[expose] public section

set_option maxRecDepth 16384

noncomputable section

namespace Cert.KernelIdeal.Vortex

open Idealize.ShloMosaic Idealize.ShloMosaic.TcCoe Idealize.SL.Sem
open Cert.KernelIdeal Cert.KernelIdeal.Gen

variable {F : FTy → Type} [FloatOps F]

/-- The 64 greatest last near rows, and their columns. -/
def topRows (fx : IVec S1024 32) : IVec S64 32 := (Host.topK S64 0 (IntOp.cmpi .sgt) fx sliceFits_S1024_S64).1
def topCols (fx : IVec S1024 32) : IVec S64 32 := (Host.topK S64 0 (IntOp.cmpi .sgt) fx sliceFits_S1024_S64).2

/-- A word in every place, and a number in every place. -/
def words (w : BitVec 32) : IVec S64 32 := broadcastInDim S64 ![] bcast_S_S64 (constantI S_ 32 w)
def nums (w : BitVec 32) : FVec F S64 .f32 := broadcastInDim S64 ![] bcast_S_S64 (constant (F := F) S_ .f32 w)

/-- The first rows of the pairs: a row where there is one, within the array. -/
def clampRows (x : IVec S64 32) : IVec S64 32 :=
  minsi (broadcastInDim S64 ![] bcast_S_S64 (id (constantI S_ 32 16382#32))) (maxsi (broadcastInDim S64 ![] bcast_S_S64 (id (constantI S_ 32 0#32))) x)

def pairRows (fx : IVec S1024 32) : IVec S64 32 := clampRows (topRows fx)

/-- An index counted from the end where it is negative. -/
def wrap (N : BitVec 32) (x : IVec S64 32) : IVec S64 32 := select (cmpi .slt x (words 0#32)) (addi x (words N)) x

def colIx (cols : IVec S64 32) : IVec S64x1 32 := broadcastInDim S64x1 ![0] bcast_S64_S64x1_0 (wrap 1024#32 cols)

/-- The argument's entries at the pairs' rows and columns. -/
def pick (x : FVec F S16384x1024 .f32) (rows cols : IVec S64 32) : FVec F S64 .f32 :=
  Host.gather gather_S16384x1024_S64x2_S64_n_01_n_n_01_1_11 x
    (concatenate S64x2 1 [⟨S64x1, broadcastInDim S64x1 ![0] bcast_S64_S64x1_0 (wrap 16384#32 rows)⟩, ⟨S64x1, colIx cols⟩] concatenates_S64x1_S64x1_S64x2_d1)

def nextRows (rows : IVec S64 32) : IVec S64 32 := addi rows (words 1#32)

/-- The sign, one at zero. -/
def signs (x : FVec F S64 .f32) : FVec F S64 .f32 := select (cmpf .olt x (nums 0x00000000#32)) (nums 0xBF800000#32) (nums 0x3F800000#32)

def half : FVec F S_ .f32 := Host.atan2 (constant (F := F) S_ .f32 0x00000000#32) (constant (F := F) S_ .f32 0xBF800000#32)

/-- The step of the angle at the pairs, and its full turns. -/
def steps (r0 r1 i0 i1 : FVec F S64 .f32) : FVec F S64 .f32 := subf (Host.atan2 i1 r1) (Host.atan2 i0 r0)
def turnsOf (d : FVec F S64 .f32) : FVec F S64 .f32 :=
  subf (select (cmpf .olt d (broadcastInDim S64 ![] bcast_S_S64 (Host.negf half))) (nums 0x3F800000#32) (nums 0x00000000#32))
    (select (cmpf .ogt d (broadcastInDim S64 ![] bcast_S_S64 half)) (nums 0x3F800000#32) (nums 0x00000000#32))

/-- What the kernel's sum had of the pairs. -/
def had (a b c : FVec F S64 .f32) : FVec F S64 .f32 :=
  mulf (id (subf (addf (subf a b) c) (mulf (mulf a b) c))) (nums 0x3E800000#32)

def updates (wind : FVec F S1024 .f32) (cols : IVec S64 32) (cnt ours : FVec F S64 .f32) : FVec F S64 .f32 :=
  subf (addf (Host.gather gather_S1024_S64x1_S64_n_0_n_n_0_1_1 wind (colIx cols)) (id cnt)) ours

/-- The winding, put right at the picked columns. -/
def putAt (wind : FVec F S1024 .f32) (cols : IVec S64 32) (upd : FVec F S64 .f32) : FVec F S1024 .f32 :=
  Host.scatter scatter_S1024_S64x1_S64_n_0_0_1 (fun _ b => b) wind (colIx cols) upd

def corrected (wind : FVec F S1024 .f32) (cols : IVec S64 32) (r0 r1 i0 i1 : FVec F S64 .f32) : FVec F S1024 .f32 :=
  putAt wind cols (updates wind cols (turnsOf (steps r0 r1 i0 i1)) (had (signs i0) (signs i1) (signs (subf (mulf r0 i1) (mulf i0 r1)))))

def fixed (wind : FVec F S1024 .f32) (fx : IVec S1024 32) (x0 x1 : FVec F S16384x1024 .f32) : FVec F S1024 .f32 :=
  corrected wind (topCols fx) (pick x0 (pairRows fx) (topCols fx)) (pick x0 (nextRows (pairRows fx)) (topCols fx))
    (pick x1 (pairRows fx) (topCols fx)) (pick x1 (nextRows (pairRows fx)) (topCols fx))

def flags (mean wind : FVec F S1024 .f32) : IVec S1024 1 :=
  andi (cmpf .olt mean (broadcastInDim S1024 ![] bcast_S_S1024 (constant (F := F) S_ .f32 0x3DCCCCCD#32)))
    (cmpf .ogt (Host.absf wind) (broadcastInDim S1024 ![] bcast_S_S1024 (constant (F := F) S_ .f32 0x3F000000#32)))

def gate (mean wind : FVec F S1024 .f32) : FVec F S1024 .f32 :=
  select (flags mean wind) wind (broadcastInDim S1024 ![] bcast_S_S1024 (id (constant (F := F) S_ .f32 0x00000000#32)))

variable (X : Valuation τ sig (Elt F))

/-- The three arrays flat. -/
def flatMean : FVec F S1024 .f32 := shapeCast S1024 (X (Proc.devRef .tc main_call0_v0_0) : FVec F S1x1024 .f32) shapeCasts_S1x1024_S1024
def flatWind : FVec F S1024 .f32 := shapeCast S1024 (X (Proc.devRef .tc main_call0_v0_1) : FVec F S1x1024 .f32) shapeCasts_S1x1024_S1024
def flatFix : IVec S1024 32 := shapeCast S1024 (X (Proc.devRef .tc main_call0_v0_2) : IVec S1x1024 32) shapeCasts_S1x1024_S1024

/-- Host lines run in two parts. -/
theorem after_cut (k : ℕ) (l : List (HloOp τ sig (Elt F))) : StableHlo.after l X = StableHlo.after (l.drop k) (StableHlo.after (l.take k) X) := by
  have h : ∀ (l₁ l₂ : List (HloOp τ sig (Elt F))) (Y : Valuation τ sig (Elt F)),
      StableHlo.after (l₁ ++ l₂) Y = StableHlo.after l₂ (StableHlo.after l₁ Y) := fun l₁ => by
    induction l₁ with
    | nil => exact fun _ _ => rfl
    | cons op l ih => exact fun l₂ Y => ih l₂ _
  rw [← h, List.take_append_drop]

/-- Lines 0 to 12. -/
abbrev opsA : List (HloOp τ sig (Elt F)) := (hostOps1 (F := F)).take 13

/-- The same, with what picks the rows and the columns left open. -/
abbrev opsA' (f g : IVec S1024 32 → IVec S64 32) : List (HloOp τ sig (Elt F)) :=
  [ StableHlo.TRef.reshape (.of main_call0_v0_0 : StableHlo.TRef sig ⟨S1x1024, .f32⟩) (.of main_call0_v1 : StableHlo.TRef sig ⟨S1024, .f32⟩) (rfl : (.f32 : EltTy) = .f32) shapeCasts_S1x1024_S1024,
    StableHlo.TRef.reshape (.of main_call0_v0_1 : StableHlo.TRef sig ⟨S1x1024, .f32⟩) (.of main_call0_v2 : StableHlo.TRef sig ⟨S1024, .f32⟩) (rfl : (.f32 : EltTy) = .f32) shapeCasts_S1x1024_S1024,
    StableHlo.TRef.reshape (.of main_call0_v0_2 : StableHlo.TRef sig ⟨S1x1024, .i32⟩) (.of main_call0_v3 : StableHlo.TRef sig ⟨S1024, .i32⟩) (rfl : (.i32 : EltTy) = .i32) shapeCasts_S1x1024_S1024,
    StableHlo.TRef.unary (.of main_call0_v3 : StableHlo.TRef sig ⟨S1024, .i32⟩) (.of main_call0_values : StableHlo.TRef sig ⟨S64, .i32⟩) f,
    StableHlo.TRef.unary (.of main_call0_v3 : StableHlo.TRef sig ⟨S1024, .i32⟩) (.of main_call0_indices : StableHlo.TRef sig ⟨S64, .i32⟩) g,
    StableHlo.TRef.nullary (.of main_call0_c : StableHlo.TRef sig ⟨S_, .i32⟩) (constantI S_ 32 0#32),
    StableHlo.TRef.nullary (.of main_call0_c_0 : StableHlo.TRef sig ⟨S_, .i32⟩) (constantI S_ 32 16382#32),
    StableHlo.TRef.unary (.of main_call0_c : StableHlo.TRef sig ⟨S_, .i32⟩) (.of main_call0_call0_v0 : StableHlo.TRef sig ⟨S_, .i32⟩) id,
    StableHlo.TRef.unary (.of main_call0_call0_v0 : StableHlo.TRef sig ⟨S_, .i32⟩) (.of main_call0_call0_v1 : StableHlo.TRef sig ⟨S64, .i32⟩) (broadcastInDim S64 ![] bcast_S_S64),
    StableHlo.TRef.binary (.of main_call0_call0_v1 : StableHlo.TRef sig ⟨S64, .i32⟩) (.of main_call0_values : StableHlo.TRef sig ⟨S64, .i32⟩) (.of main_call0_call0_v2 : StableHlo.TRef sig ⟨S64, .i32⟩) maxsi,
    StableHlo.TRef.unary (.of main_call0_c_0 : StableHlo.TRef sig ⟨S_, .i32⟩) (.of main_call0_call0_v3 : StableHlo.TRef sig ⟨S_, .i32⟩) id,
    StableHlo.TRef.unary (.of main_call0_call0_v3 : StableHlo.TRef sig ⟨S_, .i32⟩) (.of main_call0_call0_v4 : StableHlo.TRef sig ⟨S64, .i32⟩) (broadcastInDim S64 ![] bcast_S_S64),
    StableHlo.TRef.binary (.of main_call0_call0_v4 : StableHlo.TRef sig ⟨S64, .i32⟩) (.of main_call0_call0_v2 : StableHlo.TRef sig ⟨S64, .i32⟩) (.of main_call0_v4 : StableHlo.TRef sig ⟨S64, .i32⟩) minsi ]

theorem opsA_eq : opsA (F := F) = opsA' topRows topCols := rfl

theorem linesA (f g : IVec S1024 32 → IVec S64 32) : StableHlo.after (opsA' f g) X (Proc.devRef .tc main_call0_v1) = flatMean X
    ∧ StableHlo.after (opsA' f g) X (Proc.devRef .tc main_call0_v2) = flatWind X
    ∧ StableHlo.after (opsA' f g) X (Proc.devRef .tc main_call0_indices) = g (flatFix X)
    ∧ StableHlo.after (opsA' f g) X (Proc.devRef .tc main_call0_v4) = clampRows (f (flatFix X))
    ∧ StableHlo.after (opsA' f g) X (Proc.devRef .tc main_arg0) = X (Proc.devRef .tc main_arg0)
    ∧ StableHlo.after (opsA' f g) X (Proc.devRef .tc main_arg1) = X (Proc.devRef .tc main_arg1) := by
  refine ⟨?_, ?_, ?_, ?_, ?_, ?_⟩ <;>
    (simp only [opsA', StableHlo.TRef.binary, StableHlo.TRef.ternary,
        StableHlo.TRef.unary, StableHlo.TRef.nullary, StableHlo.TRef.reshape, StableHlo.TRef.toBuf, StableHlo.TRef.ofBuf, cast_eq]
     after_results_simp) <;> rfl

/-- Lines 13 to 30. -/
abbrev opsB : List (HloOp τ sig (Elt F)) :=
  [ StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S64, .i32⟩) (broadcastInDim S64 ![] bcast_S_S64),
    StableHlo.TRef.binary (.of main_call0_v4 : StableHlo.TRef sig ⟨S64, .i32⟩) (.of main_call0_v5 : StableHlo.TRef sig ⟨S64, .i32⟩) (.of main_call0_v6 : StableHlo.TRef sig ⟨S64, .i1⟩) (cmpi .slt),
    StableHlo.TRef.nullary (.of main_call0_c_2 : StableHlo.TRef sig ⟨S_, .i32⟩) (constantI S_ 32 16384#32),
    StableHlo.TRef.unary (.of main_call0_c_2 : StableHlo.TRef sig ⟨S_, .i32⟩) (.of main_call0_v7 : StableHlo.TRef sig ⟨S64, .i32⟩) (broadcastInDim S64 ![] bcast_S_S64),
    StableHlo.TRef.binary (.of main_call0_v4 : StableHlo.TRef sig ⟨S64, .i32⟩) (.of main_call0_v7 : StableHlo.TRef sig ⟨S64, .i32⟩) (.of main_call0_v8 : StableHlo.TRef sig ⟨S64, .i32⟩) addi,
    StableHlo.TRef.ternary (.of main_call0_v6 : StableHlo.TRef sig ⟨S64, .i1⟩) (.of main_call0_v8 : StableHlo.TRef sig ⟨S64, .i32⟩) (.of main_call0_v4 : StableHlo.TRef sig ⟨S64, .i32⟩) (.of main_call0_v9 : StableHlo.TRef sig ⟨S64, .i32⟩) select,
    StableHlo.TRef.nullary (.of main_call0_c_3 : StableHlo.TRef sig ⟨S_, .i32⟩) (constantI S_ 32 0#32),
    StableHlo.TRef.unary (.of main_call0_c_3 : StableHlo.TRef sig ⟨S_, .i32⟩) (.of main_call0_v10 : StableHlo.TRef sig ⟨S64, .i32⟩) (broadcastInDim S64 ![] bcast_S_S64),
    StableHlo.TRef.binary (.of main_call0_indices : StableHlo.TRef sig ⟨S64, .i32⟩) (.of main_call0_v10 : StableHlo.TRef sig ⟨S64, .i32⟩) (.of main_call0_v11 : StableHlo.TRef sig ⟨S64, .i1⟩) (cmpi .slt),
    StableHlo.TRef.nullary (.of main_call0_c_4 : StableHlo.TRef sig ⟨S_, .i32⟩) (constantI S_ 32 1024#32),
    StableHlo.TRef.unary (.of main_call0_c_4 : StableHlo.TRef sig ⟨S_, .i32⟩) (.of main_call0_v12 : StableHlo.TRef sig ⟨S64, .i32⟩) (broadcastInDim S64 ![] bcast_S_S64),
    StableHlo.TRef.binary (.of main_call0_indices : StableHlo.TRef sig ⟨S64, .i32⟩) (.of main_call0_v12 : StableHlo.TRef sig ⟨S64, .i32⟩) (.of main_call0_v13 : StableHlo.TRef sig ⟨S64, .i32⟩) addi,
    StableHlo.TRef.ternary (.of main_call0_v11 : StableHlo.TRef sig ⟨S64, .i1⟩) (.of main_call0_v13 : StableHlo.TRef sig ⟨S64, .i32⟩) (.of main_call0_indices : StableHlo.TRef sig ⟨S64, .i32⟩) (.of main_call0_v14 : StableHlo.TRef sig ⟨S64, .i32⟩) select,
    StableHlo.TRef.unary (.of main_call0_v9 : StableHlo.TRef sig ⟨S64, .i32⟩) (.of main_call0_v15 : StableHlo.TRef sig ⟨S64x1, .i32⟩) (broadcastInDim S64x1 ![0] bcast_S64_S64x1_0),
    StableHlo.TRef.unary (.of main_call0_v14 : StableHlo.TRef sig ⟨S64, .i32⟩) (.of main_call0_v16 : StableHlo.TRef sig ⟨S64x1, .i32⟩) (broadcastInDim S64x1 ![0] bcast_S64_S64x1_0),
    StableHlo.TRef.binary (.of main_call0_v15 : StableHlo.TRef sig ⟨S64x1, .i32⟩) (.of main_call0_v16 : StableHlo.TRef sig ⟨S64x1, .i32⟩) (.of main_call0_v17 : StableHlo.TRef sig ⟨S64x2, .i32⟩) (fun a b => concatenate S64x2 1 [⟨S64x1, a⟩, ⟨S64x1, b⟩] concatenates_S64x1_S64x1_S64x2_d1),
    StableHlo.TRef.binary (.of main_arg0 : StableHlo.TRef sig ⟨S16384x1024, .f32⟩) (.of main_call0_v17 : StableHlo.TRef sig ⟨S64x2, .i32⟩) (.of main_call0_v18 : StableHlo.TRef sig ⟨S64, .f32⟩) (fun x i => Host.gather gather_S16384x1024_S64x2_S64_n_01_n_n_01_1_11 x i) ]

theorem opsB_eq : opsB (F := F) = ((hostOps1 (F := F)).drop 13).take 18 := rfl

theorem linesB : StableHlo.after opsB X (Proc.devRef .tc main_call0_v18) = pick (X (Proc.devRef .tc main_arg0)) (X (Proc.devRef .tc main_call0_v4)) (X (Proc.devRef .tc main_call0_indices))
    ∧ StableHlo.after opsB X (Proc.devRef .tc main_call0_indices) = X (Proc.devRef .tc main_call0_indices)
    ∧ StableHlo.after opsB X (Proc.devRef .tc main_arg0) = X (Proc.devRef .tc main_arg0)
    ∧ StableHlo.after opsB X (Proc.devRef .tc main_arg1) = X (Proc.devRef .tc main_arg1)
    ∧ StableHlo.after opsB X (Proc.devRef .tc main_call0_v1) = X (Proc.devRef .tc main_call0_v1)
    ∧ StableHlo.after opsB X (Proc.devRef .tc main_call0_v2) = X (Proc.devRef .tc main_call0_v2)
    ∧ StableHlo.after opsB X (Proc.devRef .tc main_call0_v4) = X (Proc.devRef .tc main_call0_v4) := by
  refine ⟨?_, ?_, ?_, ?_, ?_, ?_, ?_⟩ <;>
    (simp only [opsB, StableHlo.TRef.binary, StableHlo.TRef.ternary,
        StableHlo.TRef.unary, StableHlo.TRef.nullary, StableHlo.TRef.reshape, StableHlo.TRef.toBuf, StableHlo.TRef.ofBuf, cast_eq]
     after_results_simp) <;> rfl

/-- Lines 31 to 51. -/
abbrev opsC : List (HloOp τ sig (Elt F)) :=
  [ StableHlo.TRef.nullary (.of main_call0_c_5 : StableHlo.TRef sig ⟨S_, .i32⟩) (constantI S_ 32 1#32),
    StableHlo.TRef.unary (.of main_call0_c_5 : StableHlo.TRef sig ⟨S_, .i32⟩) (.of main_call0_v19 : StableHlo.TRef sig ⟨S64, .i32⟩) (broadcastInDim S64 ![] bcast_S_S64),
    StableHlo.TRef.binary (.of main_call0_v4 : StableHlo.TRef sig ⟨S64, .i32⟩) (.of main_call0_v19 : StableHlo.TRef sig ⟨S64, .i32⟩) (.of main_call0_v20 : StableHlo.TRef sig ⟨S64, .i32⟩) addi,
    StableHlo.TRef.nullary (.of main_call0_c_6 : StableHlo.TRef sig ⟨S_, .i32⟩) (constantI S_ 32 0#32),
    StableHlo.TRef.unary (.of main_call0_c_6 : StableHlo.TRef sig ⟨S_, .i32⟩) (.of main_call0_v21 : StableHlo.TRef sig ⟨S64, .i32⟩) (broadcastInDim S64 ![] bcast_S_S64),
    StableHlo.TRef.binary (.of main_call0_v20 : StableHlo.TRef sig ⟨S64, .i32⟩) (.of main_call0_v21 : StableHlo.TRef sig ⟨S64, .i32⟩) (.of main_call0_v22 : StableHlo.TRef sig ⟨S64, .i1⟩) (cmpi .slt),
    StableHlo.TRef.nullary (.of main_call0_c_7 : StableHlo.TRef sig ⟨S_, .i32⟩) (constantI S_ 32 16384#32),
    StableHlo.TRef.unary (.of main_call0_c_7 : StableHlo.TRef sig ⟨S_, .i32⟩) (.of main_call0_v23 : StableHlo.TRef sig ⟨S64, .i32⟩) (broadcastInDim S64 ![] bcast_S_S64),
    StableHlo.TRef.binary (.of main_call0_v20 : StableHlo.TRef sig ⟨S64, .i32⟩) (.of main_call0_v23 : StableHlo.TRef sig ⟨S64, .i32⟩) (.of main_call0_v24 : StableHlo.TRef sig ⟨S64, .i32⟩) addi,
    StableHlo.TRef.ternary (.of main_call0_v22 : StableHlo.TRef sig ⟨S64, .i1⟩) (.of main_call0_v24 : StableHlo.TRef sig ⟨S64, .i32⟩) (.of main_call0_v20 : StableHlo.TRef sig ⟨S64, .i32⟩) (.of main_call0_v25 : StableHlo.TRef sig ⟨S64, .i32⟩) select,
    StableHlo.TRef.nullary (.of main_call0_c_8 : StableHlo.TRef sig ⟨S_, .i32⟩) (constantI S_ 32 0#32),
    StableHlo.TRef.unary (.of main_call0_c_8 : StableHlo.TRef sig ⟨S_, .i32⟩) (.of main_call0_v26 : StableHlo.TRef sig ⟨S64, .i32⟩) (broadcastInDim S64 ![] bcast_S_S64),
    StableHlo.TRef.binary (.of main_call0_indices : StableHlo.TRef sig ⟨S64, .i32⟩) (.of main_call0_v26 : StableHlo.TRef sig ⟨S64, .i32⟩) (.of main_call0_v27 : StableHlo.TRef sig ⟨S64, .i1⟩) (cmpi .slt),
    StableHlo.TRef.nullary (.of main_call0_c_9 : StableHlo.TRef sig ⟨S_, .i32⟩) (constantI S_ 32 1024#32),
    StableHlo.TRef.unary (.of main_call0_c_9 : StableHlo.TRef sig ⟨S_, .i32⟩) (.of main_call0_v28 : StableHlo.TRef sig ⟨S64, .i32⟩) (broadcastInDim S64 ![] bcast_S_S64),
    StableHlo.TRef.binary (.of main_call0_indices : StableHlo.TRef sig ⟨S64, .i32⟩) (.of main_call0_v28 : StableHlo.TRef sig ⟨S64, .i32⟩) (.of main_call0_v29 : StableHlo.TRef sig ⟨S64, .i32⟩) addi,
    StableHlo.TRef.ternary (.of main_call0_v27 : StableHlo.TRef sig ⟨S64, .i1⟩) (.of main_call0_v29 : StableHlo.TRef sig ⟨S64, .i32⟩) (.of main_call0_indices : StableHlo.TRef sig ⟨S64, .i32⟩) (.of main_call0_v30 : StableHlo.TRef sig ⟨S64, .i32⟩) select,
    StableHlo.TRef.unary (.of main_call0_v25 : StableHlo.TRef sig ⟨S64, .i32⟩) (.of main_call0_v31 : StableHlo.TRef sig ⟨S64x1, .i32⟩) (broadcastInDim S64x1 ![0] bcast_S64_S64x1_0),
    StableHlo.TRef.unary (.of main_call0_v30 : StableHlo.TRef sig ⟨S64, .i32⟩) (.of main_call0_v32 : StableHlo.TRef sig ⟨S64x1, .i32⟩) (broadcastInDim S64x1 ![0] bcast_S64_S64x1_0),
    StableHlo.TRef.binary (.of main_call0_v31 : StableHlo.TRef sig ⟨S64x1, .i32⟩) (.of main_call0_v32 : StableHlo.TRef sig ⟨S64x1, .i32⟩) (.of main_call0_v33 : StableHlo.TRef sig ⟨S64x2, .i32⟩) (fun a b => concatenate S64x2 1 [⟨S64x1, a⟩, ⟨S64x1, b⟩] concatenates_S64x1_S64x1_S64x2_d1),
    StableHlo.TRef.binary (.of main_arg0 : StableHlo.TRef sig ⟨S16384x1024, .f32⟩) (.of main_call0_v33 : StableHlo.TRef sig ⟨S64x2, .i32⟩) (.of main_call0_v34 : StableHlo.TRef sig ⟨S64, .f32⟩) (fun x i => Host.gather gather_S16384x1024_S64x2_S64_n_01_n_n_01_1_11 x i) ]

theorem opsC_eq : opsC (F := F) = ((hostOps1 (F := F)).drop 31).take 21 := rfl

theorem linesC : StableHlo.after opsC X (Proc.devRef .tc main_call0_v34) = pick (X (Proc.devRef .tc main_arg0)) (nextRows (X (Proc.devRef .tc main_call0_v4))) (X (Proc.devRef .tc main_call0_indices))
    ∧ StableHlo.after opsC X (Proc.devRef .tc main_call0_indices) = X (Proc.devRef .tc main_call0_indices)
    ∧ StableHlo.after opsC X (Proc.devRef .tc main_arg1) = X (Proc.devRef .tc main_arg1)
    ∧ StableHlo.after opsC X (Proc.devRef .tc main_call0_v1) = X (Proc.devRef .tc main_call0_v1)
    ∧ StableHlo.after opsC X (Proc.devRef .tc main_call0_v18) = X (Proc.devRef .tc main_call0_v18)
    ∧ StableHlo.after opsC X (Proc.devRef .tc main_call0_v2) = X (Proc.devRef .tc main_call0_v2)
    ∧ StableHlo.after opsC X (Proc.devRef .tc main_call0_v4) = X (Proc.devRef .tc main_call0_v4) := by
  refine ⟨?_, ?_, ?_, ?_, ?_, ?_, ?_⟩ <;>
    (simp only [opsC, StableHlo.TRef.binary, StableHlo.TRef.ternary,
        StableHlo.TRef.unary, StableHlo.TRef.nullary, StableHlo.TRef.reshape, StableHlo.TRef.toBuf, StableHlo.TRef.ofBuf, cast_eq]
     after_results_simp) <;> rfl

/-- Lines 52 to 69. -/
abbrev opsD : List (HloOp τ sig (Elt F)) :=
  [ StableHlo.TRef.nullary (.of main_call0_c_10 : StableHlo.TRef sig ⟨S_, .i32⟩) (constantI S_ 32 0#32),
    StableHlo.TRef.unary (.of main_call0_c_10 : StableHlo.TRef sig ⟨S_, .i32⟩) (.of main_call0_v35 : StableHlo.TRef sig ⟨S64, .i32⟩) (broadcastInDim S64 ![] bcast_S_S64),
    StableHlo.TRef.binary (.of main_call0_v4 : StableHlo.TRef sig ⟨S64, .i32⟩) (.of main_call0_v35 : StableHlo.TRef sig ⟨S64, .i32⟩) (.of main_call0_v36 : StableHlo.TRef sig ⟨S64, .i1⟩) (cmpi .slt),
    StableHlo.TRef.nullary (.of main_call0_c_11 : StableHlo.TRef sig ⟨S_, .i32⟩) (constantI S_ 32 16384#32),
    StableHlo.TRef.unary (.of main_call0_c_11 : StableHlo.TRef sig ⟨S_, .i32⟩) (.of main_call0_v37 : StableHlo.TRef sig ⟨S64, .i32⟩) (broadcastInDim S64 ![] bcast_S_S64),
    StableHlo.TRef.binary (.of main_call0_v4 : StableHlo.TRef sig ⟨S64, .i32⟩) (.of main_call0_v37 : StableHlo.TRef sig ⟨S64, .i32⟩) (.of main_call0_v38 : StableHlo.TRef sig ⟨S64, .i32⟩) addi,
    StableHlo.TRef.ternary (.of main_call0_v36 : StableHlo.TRef sig ⟨S64, .i1⟩) (.of main_call0_v38 : StableHlo.TRef sig ⟨S64, .i32⟩) (.of main_call0_v4 : StableHlo.TRef sig ⟨S64, .i32⟩) (.of main_call0_v39 : StableHlo.TRef sig ⟨S64, .i32⟩) select,
    StableHlo.TRef.nullary (.of main_call0_c_12 : StableHlo.TRef sig ⟨S_, .i32⟩) (constantI S_ 32 0#32),
    StableHlo.TRef.unary (.of main_call0_c_12 : StableHlo.TRef sig ⟨S_, .i32⟩) (.of main_call0_v40 : StableHlo.TRef sig ⟨S64, .i32⟩) (broadcastInDim S64 ![] bcast_S_S64),
    StableHlo.TRef.binary (.of main_call0_indices : StableHlo.TRef sig ⟨S64, .i32⟩) (.of main_call0_v40 : StableHlo.TRef sig ⟨S64, .i32⟩) (.of main_call0_v41 : StableHlo.TRef sig ⟨S64, .i1⟩) (cmpi .slt),
    StableHlo.TRef.nullary (.of main_call0_c_13 : StableHlo.TRef sig ⟨S_, .i32⟩) (constantI S_ 32 1024#32),
    StableHlo.TRef.unary (.of main_call0_c_13 : StableHlo.TRef sig ⟨S_, .i32⟩) (.of main_call0_v42 : StableHlo.TRef sig ⟨S64, .i32⟩) (broadcastInDim S64 ![] bcast_S_S64),
    StableHlo.TRef.binary (.of main_call0_indices : StableHlo.TRef sig ⟨S64, .i32⟩) (.of main_call0_v42 : StableHlo.TRef sig ⟨S64, .i32⟩) (.of main_call0_v43 : StableHlo.TRef sig ⟨S64, .i32⟩) addi,
    StableHlo.TRef.ternary (.of main_call0_v41 : StableHlo.TRef sig ⟨S64, .i1⟩) (.of main_call0_v43 : StableHlo.TRef sig ⟨S64, .i32⟩) (.of main_call0_indices : StableHlo.TRef sig ⟨S64, .i32⟩) (.of main_call0_v44 : StableHlo.TRef sig ⟨S64, .i32⟩) select,
    StableHlo.TRef.unary (.of main_call0_v39 : StableHlo.TRef sig ⟨S64, .i32⟩) (.of main_call0_v45 : StableHlo.TRef sig ⟨S64x1, .i32⟩) (broadcastInDim S64x1 ![0] bcast_S64_S64x1_0),
    StableHlo.TRef.unary (.of main_call0_v44 : StableHlo.TRef sig ⟨S64, .i32⟩) (.of main_call0_v46 : StableHlo.TRef sig ⟨S64x1, .i32⟩) (broadcastInDim S64x1 ![0] bcast_S64_S64x1_0),
    StableHlo.TRef.binary (.of main_call0_v45 : StableHlo.TRef sig ⟨S64x1, .i32⟩) (.of main_call0_v46 : StableHlo.TRef sig ⟨S64x1, .i32⟩) (.of main_call0_v47 : StableHlo.TRef sig ⟨S64x2, .i32⟩) (fun a b => concatenate S64x2 1 [⟨S64x1, a⟩, ⟨S64x1, b⟩] concatenates_S64x1_S64x1_S64x2_d1),
    StableHlo.TRef.binary (.of main_arg1 : StableHlo.TRef sig ⟨S16384x1024, .f32⟩) (.of main_call0_v47 : StableHlo.TRef sig ⟨S64x2, .i32⟩) (.of main_call0_v48 : StableHlo.TRef sig ⟨S64, .f32⟩) (fun x i => Host.gather gather_S16384x1024_S64x2_S64_n_01_n_n_01_1_11 x i) ]

theorem opsD_eq : opsD (F := F) = ((hostOps1 (F := F)).drop 52).take 18 := rfl

theorem linesD : StableHlo.after opsD X (Proc.devRef .tc main_call0_v48) = pick (X (Proc.devRef .tc main_arg1)) (X (Proc.devRef .tc main_call0_v4)) (X (Proc.devRef .tc main_call0_indices))
    ∧ StableHlo.after opsD X (Proc.devRef .tc main_call0_indices) = X (Proc.devRef .tc main_call0_indices)
    ∧ StableHlo.after opsD X (Proc.devRef .tc main_arg1) = X (Proc.devRef .tc main_arg1)
    ∧ StableHlo.after opsD X (Proc.devRef .tc main_call0_v1) = X (Proc.devRef .tc main_call0_v1)
    ∧ StableHlo.after opsD X (Proc.devRef .tc main_call0_v18) = X (Proc.devRef .tc main_call0_v18)
    ∧ StableHlo.after opsD X (Proc.devRef .tc main_call0_v2) = X (Proc.devRef .tc main_call0_v2)
    ∧ StableHlo.after opsD X (Proc.devRef .tc main_call0_v34) = X (Proc.devRef .tc main_call0_v34)
    ∧ StableHlo.after opsD X (Proc.devRef .tc main_call0_v4) = X (Proc.devRef .tc main_call0_v4) := by
  refine ⟨?_, ?_, ?_, ?_, ?_, ?_, ?_, ?_⟩ <;>
    (simp only [opsD, StableHlo.TRef.binary, StableHlo.TRef.ternary,
        StableHlo.TRef.unary, StableHlo.TRef.nullary, StableHlo.TRef.reshape, StableHlo.TRef.toBuf, StableHlo.TRef.ofBuf, cast_eq]
     after_results_simp) <;> rfl

/-- Lines 70 to 90. -/
abbrev opsE : List (HloOp τ sig (Elt F)) :=
  [ StableHlo.TRef.nullary (.of main_call0_c_14 : StableHlo.TRef sig ⟨S_, .i32⟩) (constantI S_ 32 1#32),
    StableHlo.TRef.unary (.of main_call0_c_14 : StableHlo.TRef sig ⟨S_, .i32⟩) (.of main_call0_v49 : StableHlo.TRef sig ⟨S64, .i32⟩) (broadcastInDim S64 ![] bcast_S_S64),
    StableHlo.TRef.binary (.of main_call0_v4 : StableHlo.TRef sig ⟨S64, .i32⟩) (.of main_call0_v49 : StableHlo.TRef sig ⟨S64, .i32⟩) (.of main_call0_v50 : StableHlo.TRef sig ⟨S64, .i32⟩) addi,
    StableHlo.TRef.nullary (.of main_call0_c_15 : StableHlo.TRef sig ⟨S_, .i32⟩) (constantI S_ 32 0#32),
    StableHlo.TRef.unary (.of main_call0_c_15 : StableHlo.TRef sig ⟨S_, .i32⟩) (.of main_call0_v51 : StableHlo.TRef sig ⟨S64, .i32⟩) (broadcastInDim S64 ![] bcast_S_S64),
    StableHlo.TRef.binary (.of main_call0_v50 : StableHlo.TRef sig ⟨S64, .i32⟩) (.of main_call0_v51 : StableHlo.TRef sig ⟨S64, .i32⟩) (.of main_call0_v52 : StableHlo.TRef sig ⟨S64, .i1⟩) (cmpi .slt),
    StableHlo.TRef.nullary (.of main_call0_c_16 : StableHlo.TRef sig ⟨S_, .i32⟩) (constantI S_ 32 16384#32),
    StableHlo.TRef.unary (.of main_call0_c_16 : StableHlo.TRef sig ⟨S_, .i32⟩) (.of main_call0_v53 : StableHlo.TRef sig ⟨S64, .i32⟩) (broadcastInDim S64 ![] bcast_S_S64),
    StableHlo.TRef.binary (.of main_call0_v50 : StableHlo.TRef sig ⟨S64, .i32⟩) (.of main_call0_v53 : StableHlo.TRef sig ⟨S64, .i32⟩) (.of main_call0_v54 : StableHlo.TRef sig ⟨S64, .i32⟩) addi,
    StableHlo.TRef.ternary (.of main_call0_v52 : StableHlo.TRef sig ⟨S64, .i1⟩) (.of main_call0_v54 : StableHlo.TRef sig ⟨S64, .i32⟩) (.of main_call0_v50 : StableHlo.TRef sig ⟨S64, .i32⟩) (.of main_call0_v55 : StableHlo.TRef sig ⟨S64, .i32⟩) select,
    StableHlo.TRef.nullary (.of main_call0_c_17 : StableHlo.TRef sig ⟨S_, .i32⟩) (constantI S_ 32 0#32),
    StableHlo.TRef.unary (.of main_call0_c_17 : StableHlo.TRef sig ⟨S_, .i32⟩) (.of main_call0_v56 : StableHlo.TRef sig ⟨S64, .i32⟩) (broadcastInDim S64 ![] bcast_S_S64),
    StableHlo.TRef.binary (.of main_call0_indices : StableHlo.TRef sig ⟨S64, .i32⟩) (.of main_call0_v56 : StableHlo.TRef sig ⟨S64, .i32⟩) (.of main_call0_v57 : StableHlo.TRef sig ⟨S64, .i1⟩) (cmpi .slt),
    StableHlo.TRef.nullary (.of main_call0_c_18 : StableHlo.TRef sig ⟨S_, .i32⟩) (constantI S_ 32 1024#32),
    StableHlo.TRef.unary (.of main_call0_c_18 : StableHlo.TRef sig ⟨S_, .i32⟩) (.of main_call0_v58 : StableHlo.TRef sig ⟨S64, .i32⟩) (broadcastInDim S64 ![] bcast_S_S64),
    StableHlo.TRef.binary (.of main_call0_indices : StableHlo.TRef sig ⟨S64, .i32⟩) (.of main_call0_v58 : StableHlo.TRef sig ⟨S64, .i32⟩) (.of main_call0_v59 : StableHlo.TRef sig ⟨S64, .i32⟩) addi,
    StableHlo.TRef.ternary (.of main_call0_v57 : StableHlo.TRef sig ⟨S64, .i1⟩) (.of main_call0_v59 : StableHlo.TRef sig ⟨S64, .i32⟩) (.of main_call0_indices : StableHlo.TRef sig ⟨S64, .i32⟩) (.of main_call0_v60 : StableHlo.TRef sig ⟨S64, .i32⟩) select,
    StableHlo.TRef.unary (.of main_call0_v55 : StableHlo.TRef sig ⟨S64, .i32⟩) (.of main_call0_v61 : StableHlo.TRef sig ⟨S64x1, .i32⟩) (broadcastInDim S64x1 ![0] bcast_S64_S64x1_0),
    StableHlo.TRef.unary (.of main_call0_v60 : StableHlo.TRef sig ⟨S64, .i32⟩) (.of main_call0_v62 : StableHlo.TRef sig ⟨S64x1, .i32⟩) (broadcastInDim S64x1 ![0] bcast_S64_S64x1_0),
    StableHlo.TRef.binary (.of main_call0_v61 : StableHlo.TRef sig ⟨S64x1, .i32⟩) (.of main_call0_v62 : StableHlo.TRef sig ⟨S64x1, .i32⟩) (.of main_call0_v63 : StableHlo.TRef sig ⟨S64x2, .i32⟩) (fun a b => concatenate S64x2 1 [⟨S64x1, a⟩, ⟨S64x1, b⟩] concatenates_S64x1_S64x1_S64x2_d1),
    StableHlo.TRef.binary (.of main_arg1 : StableHlo.TRef sig ⟨S16384x1024, .f32⟩) (.of main_call0_v63 : StableHlo.TRef sig ⟨S64x2, .i32⟩) (.of main_call0_v64 : StableHlo.TRef sig ⟨S64, .f32⟩) (fun x i => Host.gather gather_S16384x1024_S64x2_S64_n_01_n_n_01_1_11 x i) ]

theorem opsE_eq : opsE (F := F) = ((hostOps1 (F := F)).drop 70).take 21 := rfl

theorem linesE : StableHlo.after opsE X (Proc.devRef .tc main_call0_v64) = pick (X (Proc.devRef .tc main_arg1)) (nextRows (X (Proc.devRef .tc main_call0_v4))) (X (Proc.devRef .tc main_call0_indices))
    ∧ StableHlo.after opsE X (Proc.devRef .tc main_call0_indices) = X (Proc.devRef .tc main_call0_indices)
    ∧ StableHlo.after opsE X (Proc.devRef .tc main_call0_v1) = X (Proc.devRef .tc main_call0_v1)
    ∧ StableHlo.after opsE X (Proc.devRef .tc main_call0_v18) = X (Proc.devRef .tc main_call0_v18)
    ∧ StableHlo.after opsE X (Proc.devRef .tc main_call0_v2) = X (Proc.devRef .tc main_call0_v2)
    ∧ StableHlo.after opsE X (Proc.devRef .tc main_call0_v34) = X (Proc.devRef .tc main_call0_v34)
    ∧ StableHlo.after opsE X (Proc.devRef .tc main_call0_v48) = X (Proc.devRef .tc main_call0_v48) := by
  refine ⟨?_, ?_, ?_, ?_, ?_, ?_, ?_⟩ <;>
    (simp only [opsE, StableHlo.TRef.binary, StableHlo.TRef.ternary,
        StableHlo.TRef.unary, StableHlo.TRef.nullary, StableHlo.TRef.reshape, StableHlo.TRef.toBuf, StableHlo.TRef.ofBuf, cast_eq]
     after_results_simp) <;> rfl

/-- Lines 91 to 112. -/
abbrev opsF : List (HloOp τ sig (Elt F)) :=
  [ StableHlo.TRef.nullary (.of main_call0_cst : StableHlo.TRef sig ⟨S_, .f32⟩) (constant S_ .f32 0x00000000#32),
    StableHlo.TRef.nullary (.of main_call0_cst_19 : StableHlo.TRef sig ⟨S_, .f32⟩) (constant S_ .f32 0xBF800000#32),
    StableHlo.TRef.binary (.of main_call0_cst : StableHlo.TRef sig ⟨S_, .f32⟩) (.of main_call0_cst_19 : StableHlo.TRef sig ⟨S_, .f32⟩) (.of main_call0_v65 : StableHlo.TRef sig ⟨S_, .f32⟩) Host.atan2,
    StableHlo.TRef.binary (.of main_call0_v64 : StableHlo.TRef sig ⟨S64, .f32⟩) (.of main_call0_v34 : StableHlo.TRef sig ⟨S64, .f32⟩) (.of main_call0_v66 : StableHlo.TRef sig ⟨S64, .f32⟩) Host.atan2,
    StableHlo.TRef.binary (.of main_call0_v48 : StableHlo.TRef sig ⟨S64, .f32⟩) (.of main_call0_v18 : StableHlo.TRef sig ⟨S64, .f32⟩) (.of main_call0_v67 : StableHlo.TRef sig ⟨S64, .f32⟩) Host.atan2,
    StableHlo.TRef.binary (.of main_call0_v66 : StableHlo.TRef sig ⟨S64, .f32⟩) (.of main_call0_v67 : StableHlo.TRef sig ⟨S64, .f32⟩) (.of main_call0_v68 : StableHlo.TRef sig ⟨S64, .f32⟩) subf,
    StableHlo.TRef.unary (.of main_call0_v65 : StableHlo.TRef sig ⟨S_, .f32⟩) (.of main_call0_v69 : StableHlo.TRef sig ⟨S_, .f32⟩) Host.negf,
    StableHlo.TRef.unary (.of main_call0_v69 : StableHlo.TRef sig ⟨S_, .f32⟩) (.of main_call0_v70 : StableHlo.TRef sig ⟨S64, .f32⟩) (broadcastInDim S64 ![] bcast_S_S64),
    StableHlo.TRef.binary (.of main_call0_v68 : StableHlo.TRef sig ⟨S64, .f32⟩) (.of main_call0_v70 : StableHlo.TRef sig ⟨S64, .f32⟩) (.of main_call0_v71 : StableHlo.TRef sig ⟨S64, .i1⟩) (cmpf .olt),
    StableHlo.TRef.nullary (.of main_call0_cst_20 : StableHlo.TRef sig ⟨S_, .f32⟩) (constant S_ .f32 0x3F800000#32),
    StableHlo.TRef.nullary (.of main_call0_cst_21 : StableHlo.TRef sig ⟨S_, .f32⟩) (constant S_ .f32 0x00000000#32),
    StableHlo.TRef.unary (.of main_call0_cst_20 : StableHlo.TRef sig ⟨S_, .f32⟩) (.of main_call0_call1_v0 : StableHlo.TRef sig ⟨S64, .f32⟩) (broadcastInDim S64 ![] bcast_S_S64),
    StableHlo.TRef.unary (.of main_call0_cst_21 : StableHlo.TRef sig ⟨S_, .f32⟩) (.of main_call0_call1_v1 : StableHlo.TRef sig ⟨S64, .f32⟩) (broadcastInDim S64 ![] bcast_S_S64),
    StableHlo.TRef.ternary (.of main_call0_v71 : StableHlo.TRef sig ⟨S64, .i1⟩) (.of main_call0_call1_v0 : StableHlo.TRef sig ⟨S64, .f32⟩) (.of main_call0_call1_v1 : StableHlo.TRef sig ⟨S64, .f32⟩) (.of main_call0_v72 : StableHlo.TRef sig ⟨S64, .f32⟩) select,
    StableHlo.TRef.unary (.of main_call0_v65 : StableHlo.TRef sig ⟨S_, .f32⟩) (.of main_call0_v73 : StableHlo.TRef sig ⟨S64, .f32⟩) (broadcastInDim S64 ![] bcast_S_S64),
    StableHlo.TRef.binary (.of main_call0_v68 : StableHlo.TRef sig ⟨S64, .f32⟩) (.of main_call0_v73 : StableHlo.TRef sig ⟨S64, .f32⟩) (.of main_call0_v74 : StableHlo.TRef sig ⟨S64, .i1⟩) (cmpf .ogt),
    StableHlo.TRef.nullary (.of main_call0_cst_22 : StableHlo.TRef sig ⟨S_, .f32⟩) (constant S_ .f32 0x3F800000#32),
    StableHlo.TRef.nullary (.of main_call0_cst_23 : StableHlo.TRef sig ⟨S_, .f32⟩) (constant S_ .f32 0x00000000#32),
    StableHlo.TRef.unary (.of main_call0_cst_22 : StableHlo.TRef sig ⟨S_, .f32⟩) (.of main_call0_call2_v0 : StableHlo.TRef sig ⟨S64, .f32⟩) (broadcastInDim S64 ![] bcast_S_S64),
    StableHlo.TRef.unary (.of main_call0_cst_23 : StableHlo.TRef sig ⟨S_, .f32⟩) (.of main_call0_call2_v1 : StableHlo.TRef sig ⟨S64, .f32⟩) (broadcastInDim S64 ![] bcast_S_S64),
    StableHlo.TRef.ternary (.of main_call0_v74 : StableHlo.TRef sig ⟨S64, .i1⟩) (.of main_call0_call2_v0 : StableHlo.TRef sig ⟨S64, .f32⟩) (.of main_call0_call2_v1 : StableHlo.TRef sig ⟨S64, .f32⟩) (.of main_call0_v75 : StableHlo.TRef sig ⟨S64, .f32⟩) select,
    StableHlo.TRef.binary (.of main_call0_v72 : StableHlo.TRef sig ⟨S64, .f32⟩) (.of main_call0_v75 : StableHlo.TRef sig ⟨S64, .f32⟩) (.of main_call0_v76 : StableHlo.TRef sig ⟨S64, .f32⟩) subf ]

theorem opsF_eq : opsF (F := F) = ((hostOps1 (F := F)).drop 91).take 22 := rfl

theorem linesF : StableHlo.after opsF X (Proc.devRef .tc main_call0_v76) = turnsOf (steps (X (Proc.devRef .tc main_call0_v18)) (X (Proc.devRef .tc main_call0_v34)) (X (Proc.devRef .tc main_call0_v48)) (X (Proc.devRef .tc main_call0_v64)))
    ∧ StableHlo.after opsF X (Proc.devRef .tc main_call0_indices) = X (Proc.devRef .tc main_call0_indices)
    ∧ StableHlo.after opsF X (Proc.devRef .tc main_call0_v1) = X (Proc.devRef .tc main_call0_v1)
    ∧ StableHlo.after opsF X (Proc.devRef .tc main_call0_v18) = X (Proc.devRef .tc main_call0_v18)
    ∧ StableHlo.after opsF X (Proc.devRef .tc main_call0_v2) = X (Proc.devRef .tc main_call0_v2)
    ∧ StableHlo.after opsF X (Proc.devRef .tc main_call0_v34) = X (Proc.devRef .tc main_call0_v34)
    ∧ StableHlo.after opsF X (Proc.devRef .tc main_call0_v48) = X (Proc.devRef .tc main_call0_v48)
    ∧ StableHlo.after opsF X (Proc.devRef .tc main_call0_v64) = X (Proc.devRef .tc main_call0_v64) := by
  refine ⟨?_, ?_, ?_, ?_, ?_, ?_, ?_, ?_⟩ <;>
    (simp only [opsF, StableHlo.TRef.binary, StableHlo.TRef.ternary,
        StableHlo.TRef.unary, StableHlo.TRef.nullary, StableHlo.TRef.reshape, StableHlo.TRef.toBuf, StableHlo.TRef.ofBuf, cast_eq]
     after_results_simp) <;> rfl

/-- Lines 113 to 148. -/
abbrev opsG : List (HloOp τ sig (Elt F)) :=
  [ StableHlo.TRef.nullary (.of main_call0_cst_24 : StableHlo.TRef sig ⟨S_, .f32⟩) (constant S_ .f32 0x00000000#32),
    StableHlo.TRef.unary (.of main_call0_cst_24 : StableHlo.TRef sig ⟨S_, .f32⟩) (.of main_call0_v77 : StableHlo.TRef sig ⟨S64, .f32⟩) (broadcastInDim S64 ![] bcast_S_S64),
    StableHlo.TRef.binary (.of main_call0_v48 : StableHlo.TRef sig ⟨S64, .f32⟩) (.of main_call0_v77 : StableHlo.TRef sig ⟨S64, .f32⟩) (.of main_call0_v78 : StableHlo.TRef sig ⟨S64, .i1⟩) (cmpf .olt),
    StableHlo.TRef.nullary (.of main_call0_cst_25 : StableHlo.TRef sig ⟨S_, .f32⟩) (constant S_ .f32 0xBF800000#32),
    StableHlo.TRef.nullary (.of main_call0_cst_26 : StableHlo.TRef sig ⟨S_, .f32⟩) (constant S_ .f32 0x3F800000#32),
    StableHlo.TRef.unary (.of main_call0_cst_25 : StableHlo.TRef sig ⟨S_, .f32⟩) (.of main_call0_call3_v0 : StableHlo.TRef sig ⟨S64, .f32⟩) (broadcastInDim S64 ![] bcast_S_S64),
    StableHlo.TRef.unary (.of main_call0_cst_26 : StableHlo.TRef sig ⟨S_, .f32⟩) (.of main_call0_call3_v1 : StableHlo.TRef sig ⟨S64, .f32⟩) (broadcastInDim S64 ![] bcast_S_S64),
    StableHlo.TRef.ternary (.of main_call0_v78 : StableHlo.TRef sig ⟨S64, .i1⟩) (.of main_call0_call3_v0 : StableHlo.TRef sig ⟨S64, .f32⟩) (.of main_call0_call3_v1 : StableHlo.TRef sig ⟨S64, .f32⟩) (.of main_call0_v79 : StableHlo.TRef sig ⟨S64, .f32⟩) select,
    StableHlo.TRef.nullary (.of main_call0_cst_27 : StableHlo.TRef sig ⟨S_, .f32⟩) (constant S_ .f32 0x00000000#32),
    StableHlo.TRef.unary (.of main_call0_cst_27 : StableHlo.TRef sig ⟨S_, .f32⟩) (.of main_call0_v80 : StableHlo.TRef sig ⟨S64, .f32⟩) (broadcastInDim S64 ![] bcast_S_S64),
    StableHlo.TRef.binary (.of main_call0_v64 : StableHlo.TRef sig ⟨S64, .f32⟩) (.of main_call0_v80 : StableHlo.TRef sig ⟨S64, .f32⟩) (.of main_call0_v81 : StableHlo.TRef sig ⟨S64, .i1⟩) (cmpf .olt),
    StableHlo.TRef.nullary (.of main_call0_cst_28 : StableHlo.TRef sig ⟨S_, .f32⟩) (constant S_ .f32 0xBF800000#32),
    StableHlo.TRef.nullary (.of main_call0_cst_29 : StableHlo.TRef sig ⟨S_, .f32⟩) (constant S_ .f32 0x3F800000#32),
    StableHlo.TRef.unary (.of main_call0_cst_28 : StableHlo.TRef sig ⟨S_, .f32⟩) (.of main_call0_call4_v0 : StableHlo.TRef sig ⟨S64, .f32⟩) (broadcastInDim S64 ![] bcast_S_S64),
    StableHlo.TRef.unary (.of main_call0_cst_29 : StableHlo.TRef sig ⟨S_, .f32⟩) (.of main_call0_call4_v1 : StableHlo.TRef sig ⟨S64, .f32⟩) (broadcastInDim S64 ![] bcast_S_S64),
    StableHlo.TRef.ternary (.of main_call0_v81 : StableHlo.TRef sig ⟨S64, .i1⟩) (.of main_call0_call4_v0 : StableHlo.TRef sig ⟨S64, .f32⟩) (.of main_call0_call4_v1 : StableHlo.TRef sig ⟨S64, .f32⟩) (.of main_call0_v82 : StableHlo.TRef sig ⟨S64, .f32⟩) select,
    StableHlo.TRef.binary (.of main_call0_v18 : StableHlo.TRef sig ⟨S64, .f32⟩) (.of main_call0_v64 : StableHlo.TRef sig ⟨S64, .f32⟩) (.of main_call0_v83 : StableHlo.TRef sig ⟨S64, .f32⟩) mulf,
    StableHlo.TRef.binary (.of main_call0_v48 : StableHlo.TRef sig ⟨S64, .f32⟩) (.of main_call0_v34 : StableHlo.TRef sig ⟨S64, .f32⟩) (.of main_call0_v84 : StableHlo.TRef sig ⟨S64, .f32⟩) mulf,
    StableHlo.TRef.binary (.of main_call0_v83 : StableHlo.TRef sig ⟨S64, .f32⟩) (.of main_call0_v84 : StableHlo.TRef sig ⟨S64, .f32⟩) (.of main_call0_v85 : StableHlo.TRef sig ⟨S64, .f32⟩) subf,
    StableHlo.TRef.nullary (.of main_call0_cst_30 : StableHlo.TRef sig ⟨S_, .f32⟩) (constant S_ .f32 0x00000000#32),
    StableHlo.TRef.unary (.of main_call0_cst_30 : StableHlo.TRef sig ⟨S_, .f32⟩) (.of main_call0_v86 : StableHlo.TRef sig ⟨S64, .f32⟩) (broadcastInDim S64 ![] bcast_S_S64),
    StableHlo.TRef.binary (.of main_call0_v85 : StableHlo.TRef sig ⟨S64, .f32⟩) (.of main_call0_v86 : StableHlo.TRef sig ⟨S64, .f32⟩) (.of main_call0_v87 : StableHlo.TRef sig ⟨S64, .i1⟩) (cmpf .olt),
    StableHlo.TRef.nullary (.of main_call0_cst_31 : StableHlo.TRef sig ⟨S_, .f32⟩) (constant S_ .f32 0xBF800000#32),
    StableHlo.TRef.nullary (.of main_call0_cst_32 : StableHlo.TRef sig ⟨S_, .f32⟩) (constant S_ .f32 0x3F800000#32),
    StableHlo.TRef.unary (.of main_call0_cst_31 : StableHlo.TRef sig ⟨S_, .f32⟩) (.of main_call0_call5_v0 : StableHlo.TRef sig ⟨S64, .f32⟩) (broadcastInDim S64 ![] bcast_S_S64),
    StableHlo.TRef.unary (.of main_call0_cst_32 : StableHlo.TRef sig ⟨S_, .f32⟩) (.of main_call0_call5_v1 : StableHlo.TRef sig ⟨S64, .f32⟩) (broadcastInDim S64 ![] bcast_S_S64),
    StableHlo.TRef.ternary (.of main_call0_v87 : StableHlo.TRef sig ⟨S64, .i1⟩) (.of main_call0_call5_v0 : StableHlo.TRef sig ⟨S64, .f32⟩) (.of main_call0_call5_v1 : StableHlo.TRef sig ⟨S64, .f32⟩) (.of main_call0_v88 : StableHlo.TRef sig ⟨S64, .f32⟩) select,
    StableHlo.TRef.binary (.of main_call0_v79 : StableHlo.TRef sig ⟨S64, .f32⟩) (.of main_call0_v82 : StableHlo.TRef sig ⟨S64, .f32⟩) (.of main_call0_v89 : StableHlo.TRef sig ⟨S64, .f32⟩) subf,
    StableHlo.TRef.binary (.of main_call0_v89 : StableHlo.TRef sig ⟨S64, .f32⟩) (.of main_call0_v88 : StableHlo.TRef sig ⟨S64, .f32⟩) (.of main_call0_v90 : StableHlo.TRef sig ⟨S64, .f32⟩) addf,
    StableHlo.TRef.binary (.of main_call0_v79 : StableHlo.TRef sig ⟨S64, .f32⟩) (.of main_call0_v82 : StableHlo.TRef sig ⟨S64, .f32⟩) (.of main_call0_v91 : StableHlo.TRef sig ⟨S64, .f32⟩) mulf,
    StableHlo.TRef.binary (.of main_call0_v91 : StableHlo.TRef sig ⟨S64, .f32⟩) (.of main_call0_v88 : StableHlo.TRef sig ⟨S64, .f32⟩) (.of main_call0_v92 : StableHlo.TRef sig ⟨S64, .f32⟩) mulf,
    StableHlo.TRef.binary (.of main_call0_v90 : StableHlo.TRef sig ⟨S64, .f32⟩) (.of main_call0_v92 : StableHlo.TRef sig ⟨S64, .f32⟩) (.of main_call0_v93 : StableHlo.TRef sig ⟨S64, .f32⟩) subf,
    StableHlo.TRef.unary (.of main_call0_v93 : StableHlo.TRef sig ⟨S64, .f32⟩) (.of main_call0_v94 : StableHlo.TRef sig ⟨S64, .f32⟩) id,
    StableHlo.TRef.nullary (.of main_call0_cst_33 : StableHlo.TRef sig ⟨S_, .f32⟩) (constant S_ .f32 0x3E800000#32),
    StableHlo.TRef.unary (.of main_call0_cst_33 : StableHlo.TRef sig ⟨S_, .f32⟩) (.of main_call0_v95 : StableHlo.TRef sig ⟨S64, .f32⟩) (broadcastInDim S64 ![] bcast_S_S64),
    StableHlo.TRef.binary (.of main_call0_v94 : StableHlo.TRef sig ⟨S64, .f32⟩) (.of main_call0_v95 : StableHlo.TRef sig ⟨S64, .f32⟩) (.of main_call0_v96 : StableHlo.TRef sig ⟨S64, .f32⟩) mulf ]

theorem opsG_eq : opsG (F := F) = ((hostOps1 (F := F)).drop 113).take 36 := rfl

theorem linesG : StableHlo.after opsG X (Proc.devRef .tc main_call0_v96) = had (signs (X (Proc.devRef .tc main_call0_v48))) (signs (X (Proc.devRef .tc main_call0_v64))) (signs (subf (mulf (X (Proc.devRef .tc main_call0_v18) : FVec F S64 .f32) (X (Proc.devRef .tc main_call0_v64))) (mulf (X (Proc.devRef .tc main_call0_v48)) (X (Proc.devRef .tc main_call0_v34)))))
    ∧ StableHlo.after opsG X (Proc.devRef .tc main_call0_indices) = X (Proc.devRef .tc main_call0_indices)
    ∧ StableHlo.after opsG X (Proc.devRef .tc main_call0_v1) = X (Proc.devRef .tc main_call0_v1)
    ∧ StableHlo.after opsG X (Proc.devRef .tc main_call0_v2) = X (Proc.devRef .tc main_call0_v2)
    ∧ StableHlo.after opsG X (Proc.devRef .tc main_call0_v76) = X (Proc.devRef .tc main_call0_v76) := by
  refine ⟨?_, ?_, ?_, ?_, ?_⟩ <;>
    (simp only [opsG, StableHlo.TRef.binary, StableHlo.TRef.ternary,
        StableHlo.TRef.unary, StableHlo.TRef.nullary, StableHlo.TRef.reshape, StableHlo.TRef.toBuf, StableHlo.TRef.ofBuf, cast_eq]
     after_results_simp) <;> rfl

/-- Lines 149 to 160. -/
abbrev opsH : List (HloOp τ sig (Elt F)) :=
  [ StableHlo.TRef.nullary (.of main_call0_c_34 : StableHlo.TRef sig ⟨S_, .i32⟩) (constantI S_ 32 0#32),
    StableHlo.TRef.unary (.of main_call0_c_34 : StableHlo.TRef sig ⟨S_, .i32⟩) (.of main_call0_v97 : StableHlo.TRef sig ⟨S64, .i32⟩) (broadcastInDim S64 ![] bcast_S_S64),
    StableHlo.TRef.binary (.of main_call0_indices : StableHlo.TRef sig ⟨S64, .i32⟩) (.of main_call0_v97 : StableHlo.TRef sig ⟨S64, .i32⟩) (.of main_call0_v98 : StableHlo.TRef sig ⟨S64, .i1⟩) (cmpi .slt),
    StableHlo.TRef.nullary (.of main_call0_c_35 : StableHlo.TRef sig ⟨S_, .i32⟩) (constantI S_ 32 1024#32),
    StableHlo.TRef.unary (.of main_call0_c_35 : StableHlo.TRef sig ⟨S_, .i32⟩) (.of main_call0_v99 : StableHlo.TRef sig ⟨S64, .i32⟩) (broadcastInDim S64 ![] bcast_S_S64),
    StableHlo.TRef.binary (.of main_call0_indices : StableHlo.TRef sig ⟨S64, .i32⟩) (.of main_call0_v99 : StableHlo.TRef sig ⟨S64, .i32⟩) (.of main_call0_v100 : StableHlo.TRef sig ⟨S64, .i32⟩) addi,
    StableHlo.TRef.ternary (.of main_call0_v98 : StableHlo.TRef sig ⟨S64, .i1⟩) (.of main_call0_v100 : StableHlo.TRef sig ⟨S64, .i32⟩) (.of main_call0_indices : StableHlo.TRef sig ⟨S64, .i32⟩) (.of main_call0_v101 : StableHlo.TRef sig ⟨S64, .i32⟩) select,
    StableHlo.TRef.unary (.of main_call0_v101 : StableHlo.TRef sig ⟨S64, .i32⟩) (.of main_call0_v102 : StableHlo.TRef sig ⟨S64x1, .i32⟩) (broadcastInDim S64x1 ![0] bcast_S64_S64x1_0),
    StableHlo.TRef.binary (.of main_call0_v2 : StableHlo.TRef sig ⟨S1024, .f32⟩) (.of main_call0_v102 : StableHlo.TRef sig ⟨S64x1, .i32⟩) (.of main_call0_v103 : StableHlo.TRef sig ⟨S64, .f32⟩) (fun x i => Host.gather gather_S1024_S64x1_S64_n_0_n_n_0_1_1 x i),
    StableHlo.TRef.unary (.of main_call0_v76 : StableHlo.TRef sig ⟨S64, .f32⟩) (.of main_call0_v104 : StableHlo.TRef sig ⟨S64, .f32⟩) id,
    StableHlo.TRef.binary (.of main_call0_v103 : StableHlo.TRef sig ⟨S64, .f32⟩) (.of main_call0_v104 : StableHlo.TRef sig ⟨S64, .f32⟩) (.of main_call0_v105 : StableHlo.TRef sig ⟨S64, .f32⟩) addf,
    StableHlo.TRef.binary (.of main_call0_v105 : StableHlo.TRef sig ⟨S64, .f32⟩) (.of main_call0_v96 : StableHlo.TRef sig ⟨S64, .f32⟩) (.of main_call0_v106 : StableHlo.TRef sig ⟨S64, .f32⟩) subf ]

theorem opsH_eq : opsH (F := F) = ((hostOps1 (F := F)).drop 149).take 12 := rfl

theorem linesH : StableHlo.after opsH X (Proc.devRef .tc main_call0_v106) = updates (X (Proc.devRef .tc main_call0_v2)) (X (Proc.devRef .tc main_call0_indices)) (X (Proc.devRef .tc main_call0_v76)) (X (Proc.devRef .tc main_call0_v96))
    ∧ StableHlo.after opsH X (Proc.devRef .tc main_call0_indices) = X (Proc.devRef .tc main_call0_indices)
    ∧ StableHlo.after opsH X (Proc.devRef .tc main_call0_v1) = X (Proc.devRef .tc main_call0_v1)
    ∧ StableHlo.after opsH X (Proc.devRef .tc main_call0_v2) = X (Proc.devRef .tc main_call0_v2) := by
  refine ⟨?_, ?_, ?_, ?_⟩ <;>
    (simp only [opsH, StableHlo.TRef.binary, StableHlo.TRef.ternary,
        StableHlo.TRef.unary, StableHlo.TRef.nullary, StableHlo.TRef.reshape, StableHlo.TRef.toBuf, StableHlo.TRef.ofBuf, cast_eq]
     after_results_simp) <;> rfl

/-- Lines 161 to 169. -/
abbrev opsI : List (HloOp τ sig (Elt F)) :=
  [ StableHlo.TRef.nullary (.of main_call0_c_36 : StableHlo.TRef sig ⟨S_, .i32⟩) (constantI S_ 32 0#32),
    StableHlo.TRef.unary (.of main_call0_c_36 : StableHlo.TRef sig ⟨S_, .i32⟩) (.of main_call0_v107 : StableHlo.TRef sig ⟨S64, .i32⟩) (broadcastInDim S64 ![] bcast_S_S64),
    StableHlo.TRef.binary (.of main_call0_indices : StableHlo.TRef sig ⟨S64, .i32⟩) (.of main_call0_v107 : StableHlo.TRef sig ⟨S64, .i32⟩) (.of main_call0_v108 : StableHlo.TRef sig ⟨S64, .i1⟩) (cmpi .slt),
    StableHlo.TRef.nullary (.of main_call0_c_37 : StableHlo.TRef sig ⟨S_, .i32⟩) (constantI S_ 32 1024#32),
    StableHlo.TRef.unary (.of main_call0_c_37 : StableHlo.TRef sig ⟨S_, .i32⟩) (.of main_call0_v109 : StableHlo.TRef sig ⟨S64, .i32⟩) (broadcastInDim S64 ![] bcast_S_S64),
    StableHlo.TRef.binary (.of main_call0_indices : StableHlo.TRef sig ⟨S64, .i32⟩) (.of main_call0_v109 : StableHlo.TRef sig ⟨S64, .i32⟩) (.of main_call0_v110 : StableHlo.TRef sig ⟨S64, .i32⟩) addi,
    StableHlo.TRef.ternary (.of main_call0_v108 : StableHlo.TRef sig ⟨S64, .i1⟩) (.of main_call0_v110 : StableHlo.TRef sig ⟨S64, .i32⟩) (.of main_call0_indices : StableHlo.TRef sig ⟨S64, .i32⟩) (.of main_call0_v111 : StableHlo.TRef sig ⟨S64, .i32⟩) select,
    StableHlo.TRef.unary (.of main_call0_v111 : StableHlo.TRef sig ⟨S64, .i32⟩) (.of main_call0_v112 : StableHlo.TRef sig ⟨S64x1, .i32⟩) (broadcastInDim S64x1 ![0] bcast_S64_S64x1_0),
    StableHlo.TRef.ternary (.of main_call0_v2 : StableHlo.TRef sig ⟨S1024, .f32⟩) (.of main_call0_v112 : StableHlo.TRef sig ⟨S64x1, .i32⟩) (.of main_call0_v106 : StableHlo.TRef sig ⟨S64, .f32⟩) (.of main_call0_v113 : StableHlo.TRef sig ⟨S1024, .f32⟩) (fun x i u => Host.scatter scatter_S1024_S64x1_S64_n_0_0_1 (fun _ b => b) x i u) ]

theorem opsI_eq : opsI (F := F) = ((hostOps1 (F := F)).drop 161).take 9 := rfl

theorem linesI : StableHlo.after opsI X (Proc.devRef .tc main_call0_v113) = putAt (X (Proc.devRef .tc main_call0_v2)) (X (Proc.devRef .tc main_call0_indices)) (X (Proc.devRef .tc main_call0_v106))
    ∧ StableHlo.after opsI X (Proc.devRef .tc main_call0_v1) = X (Proc.devRef .tc main_call0_v1) := by
  refine ⟨?_, ?_⟩ <;>
    (simp only [opsI, StableHlo.TRef.binary, StableHlo.TRef.ternary,
        StableHlo.TRef.unary, StableHlo.TRef.nullary, StableHlo.TRef.reshape, StableHlo.TRef.toBuf, StableHlo.TRef.ofBuf, cast_eq]
     after_results_simp) <;> rfl

/-- Lines 170 to 182. -/
abbrev opsJ : List (HloOp τ sig (Elt F)) :=
  [ StableHlo.TRef.nullary (.of main_call0_cst_38 : StableHlo.TRef sig ⟨S_, .f32⟩) (constant S_ .f32 0x3DCCCCCD#32),
    StableHlo.TRef.unary (.of main_call0_cst_38 : StableHlo.TRef sig ⟨S_, .f32⟩) (.of main_call0_v114 : StableHlo.TRef sig ⟨S1024, .f32⟩) (broadcastInDim S1024 ![] bcast_S_S1024),
    StableHlo.TRef.binary (.of main_call0_v1 : StableHlo.TRef sig ⟨S1024, .f32⟩) (.of main_call0_v114 : StableHlo.TRef sig ⟨S1024, .f32⟩) (.of main_call0_v115 : StableHlo.TRef sig ⟨S1024, .i1⟩) (cmpf .olt),
    StableHlo.TRef.unary (.of main_call0_v113 : StableHlo.TRef sig ⟨S1024, .f32⟩) (.of main_call0_v116 : StableHlo.TRef sig ⟨S1024, .f32⟩) Host.absf,
    StableHlo.TRef.nullary (.of main_call0_cst_39 : StableHlo.TRef sig ⟨S_, .f32⟩) (constant S_ .f32 0x3F000000#32),
    StableHlo.TRef.unary (.of main_call0_cst_39 : StableHlo.TRef sig ⟨S_, .f32⟩) (.of main_call0_v117 : StableHlo.TRef sig ⟨S1024, .f32⟩) (broadcastInDim S1024 ![] bcast_S_S1024),
    StableHlo.TRef.binary (.of main_call0_v116 : StableHlo.TRef sig ⟨S1024, .f32⟩) (.of main_call0_v117 : StableHlo.TRef sig ⟨S1024, .f32⟩) (.of main_call0_v118 : StableHlo.TRef sig ⟨S1024, .i1⟩) (cmpf .ogt),
    StableHlo.TRef.binary (.of main_call0_v115 : StableHlo.TRef sig ⟨S1024, .i1⟩) (.of main_call0_v118 : StableHlo.TRef sig ⟨S1024, .i1⟩) (.of main_call0_v119 : StableHlo.TRef sig ⟨S1024, .i1⟩) andi,
    StableHlo.TRef.unary (.of main_call0_v119 : StableHlo.TRef sig ⟨S1024, .i1⟩) (.of main_v0_0 : StableHlo.TRef sig ⟨S1024, .i32⟩) (extui 32 · natLt_1_32),
    StableHlo.TRef.nullary (.of main_call0_cst_40 : StableHlo.TRef sig ⟨S_, .f32⟩) (constant S_ .f32 0x00000000#32),
    StableHlo.TRef.unary (.of main_call0_cst_40 : StableHlo.TRef sig ⟨S_, .f32⟩) (.of main_call0_call6_v0 : StableHlo.TRef sig ⟨S_, .f32⟩) id,
    StableHlo.TRef.unary (.of main_call0_call6_v0 : StableHlo.TRef sig ⟨S_, .f32⟩) (.of main_call0_call6_v1 : StableHlo.TRef sig ⟨S1024, .f32⟩) (broadcastInDim S1024 ![] bcast_S_S1024),
    StableHlo.TRef.ternary (.of main_call0_v119 : StableHlo.TRef sig ⟨S1024, .i1⟩) (.of main_call0_v113 : StableHlo.TRef sig ⟨S1024, .f32⟩) (.of main_call0_call6_v1 : StableHlo.TRef sig ⟨S1024, .f32⟩) (.of main_v0_1 : StableHlo.TRef sig ⟨S1024, .f32⟩) select ]

theorem opsJ_eq : opsJ (F := F) = ((hostOps1 (F := F)).drop 170).take 13 := rfl

theorem linesJ : StableHlo.after opsJ X (Proc.devRef .tc main_v0_0) = extui 32 (flags (X (Proc.devRef .tc main_call0_v1) : FVec F S1024 .f32) (X (Proc.devRef .tc main_call0_v113))) natLt_1_32
    ∧ StableHlo.after opsJ X (Proc.devRef .tc main_v0_1) = gate (X (Proc.devRef .tc main_call0_v1) : FVec F S1024 .f32) (X (Proc.devRef .tc main_call0_v113)) := by
  refine ⟨?_, ?_⟩ <;>
    (simp only [opsJ, StableHlo.TRef.binary, StableHlo.TRef.ternary,
        StableHlo.TRef.unary, StableHlo.TRef.nullary, StableHlo.TRef.reshape, StableHlo.TRef.toBuf, StableHlo.TRef.ofBuf, cast_eq]
     after_results_simp) <;> rfl

end Cert.KernelIdeal.Vortex

end
-- ==== Proof.TailRun.lean ====
/- The host lines after the kernel's call, run as one: both results as terms of the arrays and the arguments. -/
module

public import proofs.«01_k».proof.Proof.Tail

@[expose] public section

set_option maxRecDepth 16384

noncomputable section

namespace Cert.KernelIdeal.Vortex

open Idealize.ShloMosaic Idealize.ShloMosaic.TcCoe Idealize.SL.Sem
open Cert.KernelIdeal Cert.KernelIdeal.Gen

variable {F : FTy → Type} [FloatOps F] (X : Valuation τ sig (Elt F))

theorem after_drop (a k b : ℕ) (h : a + k = b) (l : List (HloOp τ sig (Elt F))) :
    StableHlo.after (l.drop a) X = StableHlo.after (l.drop b) (StableHlo.after ((l.drop a).take k) X) := by
  rw [after_cut X k (l.drop a), List.drop_drop, h]

theorem after_end (l : List (HloOp τ sig (Elt F))) (h : l = []) : StableHlo.after l X = X := by rw [h]; rfl

theorem after_parts : StableHlo.after hostOps1 X
    = StableHlo.after opsJ (StableHlo.after opsI (StableHlo.after opsH (StableHlo.after opsG (StableHlo.after opsF (StableHlo.after opsE
        (StableHlo.after opsD (StableHlo.after opsC (StableHlo.after opsB (StableHlo.after (opsA' topRows topCols) X))))))))) := by
  rw [← opsA_eq, opsB_eq, opsC_eq, opsD_eq, opsE_eq, opsF_eq, opsG_eq, opsH_eq, opsI_eq, opsJ_eq]
  rw [after_cut X 13 hostOps1]
  rw [after_drop _ 13 18 31 rfl]
  rw [after_drop _ 31 21 52 rfl]
  rw [after_drop _ 52 18 70 rfl]
  rw [after_drop _ 70 21 91 rfl]
  rw [after_drop _ 91 22 113 rfl]
  rw [after_drop _ 113 36 149 rfl]
  rw [after_drop _ 149 12 161 rfl]
  rw [after_drop _ 161 9 170 rfl]
  rw [after_drop _ 170 13 183 rfl]
  exact after_end _ _ rfl

theorem tail_results : StableHlo.after hostOps1 X (Proc.devRef .tc main_v0_0)
      = extui 32 (flags (flatMean X) (fixed (flatWind X) (flatFix X) (X (Proc.devRef .tc main_arg0)) (X (Proc.devRef .tc main_arg1)))) natLt_1_32
    ∧ StableHlo.after hostOps1 X (Proc.devRef .tc main_v0_1)
      = gate (flatMean X) (fixed (flatWind X) (flatFix X) (X (Proc.devRef .tc main_arg0)) (X (Proc.devRef .tc main_arg1))) := by
  rw [after_parts]
  have hA := linesA X topRows topCols
  generalize StableHlo.after (opsA' topRows topCols) X = XA at *
  obtain ⟨a_v1, a_v2, a_indices, a_v4, a_main_arg0, a_main_arg1⟩ := hA
  have hB := linesB XA
  generalize StableHlo.after opsB XA = XB at *
  obtain ⟨b_v18, b_indices, b_main_arg0, b_main_arg1, b_v1, b_v2, b_v4⟩ := hB
  have hC := linesC XB
  generalize StableHlo.after opsC XB = XC at *
  obtain ⟨c_v34, c_indices, c_main_arg1, c_v1, c_v18, c_v2, c_v4⟩ := hC
  have hD := linesD XC
  generalize StableHlo.after opsD XC = XD at *
  obtain ⟨d_v48, d_indices, d_main_arg1, d_v1, d_v18, d_v2, d_v34, d_v4⟩ := hD
  have hE := linesE XD
  generalize StableHlo.after opsE XD = XE at *
  obtain ⟨e_v64, e_indices, e_v1, e_v18, e_v2, e_v34, e_v48⟩ := hE
  have hF := linesF XE
  generalize StableHlo.after opsF XE = XF at *
  obtain ⟨f_v76, f_indices, f_v1, f_v18, f_v2, f_v34, f_v48, f_v64⟩ := hF
  have hG := linesG XF
  generalize StableHlo.after opsG XF = XG at *
  obtain ⟨g_v96, g_indices, g_v1, g_v2, g_v76⟩ := hG
  have hH := linesH XG
  generalize StableHlo.after opsH XG = XH at *
  obtain ⟨h_v106, h_indices, h_v1, h_v2⟩ := hH
  have hI := linesI XH
  generalize StableHlo.after opsI XH = XI at *
  obtain ⟨i_v113, i_v1⟩ := hI
  have hJ := linesJ XI
  obtain ⟨j_main_v0_0, j_main_v0_1⟩ := hJ
  rw [j_main_v0_0, j_main_v0_1]
  simp only [i_v113, i_v1]
  simp only [h_v106, h_indices, h_v1, h_v2]
  simp only [g_v96, g_indices, g_v1, g_v2, g_v76]
  simp only [f_v76, f_indices, f_v1, f_v18, f_v2, f_v34, f_v48, f_v64]
  simp only [e_v64, e_indices, e_v1, e_v18, e_v2, e_v34, e_v48]
  simp only [d_v48, d_indices, d_main_arg1, d_v1, d_v18, d_v2, d_v34, d_v4]
  simp only [c_v34, c_indices, c_main_arg1, c_v1, c_v18, c_v2, c_v4]
  simp only [b_v18, b_indices, b_main_arg0, b_main_arg1, b_v1, b_v2, b_v4]
  simp only [a_v1, a_v2, a_indices, a_v4, a_main_arg0, a_main_arg1]
  exact ⟨rfl, rfl⟩

end Cert.KernelIdeal.Vortex

end
-- ==== Proof.Lookup.lean ====
/- The host's lookups read at an entry: a gather by row and column, a gather by place, and the scatter that sets. -/
module

public import proofs.«01_k».proof.Proof.TailRun
public import proofs.«01_k».proof.Proof.Gen.KernelIdeal
public import Idealize.ShloMosaic.Lib.Routing.OpsSet
public import Idealize.ShloMosaic.Lib.SortNet.Extract
public import Idealize.ShloMosaic.Lib.Pointwise

@[expose] public section

set_option maxRecDepth 16384

noncomputable section

namespace Cert.KernelIdeal.Vortex

open Idealize.ShloMosaic Idealize.ShloMosaic.TcCoe Idealize.SL.Sem
open Cert.KernelIdeal Cert.KernelIdeal.Gen

theorem toInt_word (n : ℕ) (h : n < 2 ^ 31) : (BitVec.ofNat 32 n).toInt = n := by
  rw [BitVec.toInt_ofNat']
  exact Int.bmod_eq_of_le (by norm_num <;> omega) (by norm_num <;> omega)

section
variable {α : Type}

/-- A gather of entries by row and column. -/
theorem gather_pair (x : S16384x1024.Idx → α) (idx : IVec S64x2 32) (k : Fin 64) (a b : ℕ) (ha : a < 16384) (hb : b < 1024)
    (h0 : idx (ix2 k 0) = BitVec.ofNat 32 a) (h1 : idx (ix2 k 1) = BitVec.ofNat 32 b) :
    Host.gather gather_S16384x1024_S64x2_S64_n_01_n_n_01_1_11 x idx (ix1 k) = x (ix2 ⟨a, ha⟩ ⟨b, hb⟩) := by
  unfold Host.gather
  congr 1
  have hs : ∀ c : Fin 2, gather_S16384x1024_S64x2_S64_n_01_n_n_01_1_11.siIdx (ix1 k) c = ix2 k c := fun c => by
    funext e; refine Fin.ext ?_
    match e with
    | ⟨0, _⟩ => rfl
    | ⟨1, _⟩ => rfl
  have hc : ∀ e : Fin 2, gather_S16384x1024_S64x2_S64_n_01_n_n_01_1_11.batchCoord (ix1 k) e = 0 := fun e =>
    GatherDims.batchCoord_eq_zero _ _ _ List.not_mem_nil
  have ho : ∀ e : Fin 2, gather_S16384x1024_S64x2_S64_n_01_n_n_01_1_11.offCoord (ix1 k) e = 0 := fun e =>
    GatherDims.offCoord_eq_zero _ _ _ (fun h => ((GatherDims.mem_sKept _ _).mp h).1 (by
      show e ∈ ([0, 1] : List (Fin 2)); fin_cases e <;> simp))
  funext e; refine Fin.ext ?_
  match e with
  | ⟨0, _⟩ =>
    show gather_S16384x1024_S64x2_S64_n_01_n_n_01_1_11.start (ix1 k) idx 0 + gather_S16384x1024_S64x2_S64_n_01_n_n_01_1_11.batchCoord (ix1 k) 0
      + gather_S16384x1024_S64x2_S64_n_01_n_n_01_1_11.offCoord (ix1 k) 0 = a
    rw [hc 0, ho 0]
    unfold GatherDims.start
    rw [dif_pos (show _ ∈ gather_S16384x1024_S64x2_S64_n_01_n_n_01_1_11.startIndexMap from (by simp : (0 : Fin 2) ∈ ([0, 1] : List (Fin 2))))]
    show min (idx (gather_S16384x1024_S64x2_S64_n_01_n_n_01_1_11.siIdx (ix1 k) (0 : Fin 2))).toInt.toNat (16384 - 1) + 0 + 0 = a
    rw [hs 0, h0, toInt_word a (by omega), Int.toNat_natCast]
    omega
  | ⟨1, _⟩ =>
    show gather_S16384x1024_S64x2_S64_n_01_n_n_01_1_11.start (ix1 k) idx 1 + gather_S16384x1024_S64x2_S64_n_01_n_n_01_1_11.batchCoord (ix1 k) 1
      + gather_S16384x1024_S64x2_S64_n_01_n_n_01_1_11.offCoord (ix1 k) 1 = b
    rw [hc 1, ho 1]
    unfold GatherDims.start
    rw [dif_pos (show _ ∈ gather_S16384x1024_S64x2_S64_n_01_n_n_01_1_11.startIndexMap from (by simp : (1 : Fin 2) ∈ ([0, 1] : List (Fin 2))))]
    show min (idx (gather_S16384x1024_S64x2_S64_n_01_n_n_01_1_11.siIdx (ix1 k) (1 : Fin 2))).toInt.toNat (1024 - 1) + 0 + 0 = b
    rw [hs 1, h1, toInt_word b (by omega), Int.toNat_natCast]
    omega

/-- A gather of entries of a vector by place. -/
theorem gather_place (x : S1024.Idx → α) (idx : IVec S64x1 32) (k : Fin 64) (b : ℕ) (hb : b < 1024) (h : idx (ix2 k 0) = BitVec.ofNat 32 b) :
    Host.gather gather_S1024_S64x1_S64_n_0_n_n_0_1_1 x idx (ix1 k) = x (ix1 ⟨b, hb⟩) := by
  unfold Host.gather
  congr 1
  have hs : gather_S1024_S64x1_S64_n_0_n_n_0_1_1.siIdx (ix1 k) (0 : Fin 1) = ix2 k 0 := by
    funext e; refine Fin.ext ?_
    match e with
    | ⟨0, _⟩ => rfl
    | ⟨1, _⟩ => rfl
  funext e; refine Fin.ext ?_
  match e with
  | ⟨0, _⟩ =>
    show gather_S1024_S64x1_S64_n_0_n_n_0_1_1.start (ix1 k) idx 0 + gather_S1024_S64x1_S64_n_0_n_n_0_1_1.batchCoord (ix1 k) 0
      + gather_S1024_S64x1_S64_n_0_n_n_0_1_1.offCoord (ix1 k) 0 = b
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show _ ∈ gather_S1024_S64x1_S64_n_0_n_n_0_1_1.startIndexMap from (by simp : (0 : Fin 1) ∈ ([0] : List (Fin 1))))]
    show min (idx (gather_S1024_S64x1_S64_n_0_n_n_0_1_1.siIdx (ix1 k) (0 : Fin 1))).toInt.toNat (1024 - 1) + 0 + 0 = b
    rw [hs, h, toInt_word b (by omega), Int.toNat_natCast]
    omega

/-- Where the scatter's update of a place lands. -/
theorem scatter_place (idx : IVec S64x1 32) (k : Fin 64) (b : ℕ) (hb : b < 1024) (h : idx (ix2 k 0) = BitVec.ofNat 32 b) (t : Fin 1024) :
    scatter_S1024_S64x1_S64_n_0_0_1.resultIdx? (ix1 k) idx = some (ix1 t) ↔ b = t.val := by
  have hw : scatter_S1024_S64x1_S64_n_0_0_1.window (ix1 k) 0 = 0 := by
    unfold ScatterDims.window
    rw [dif_neg fun h => (of_decide_eq_true (List.mem_filter.1 h).2) (List.mem_singleton.2 rfl)]
  have hs : scatter_S1024_S64x1_S64_n_0_0_1.siIdx (ix1 k) (0 : Fin 1) = ix2 k 0 := by
    funext e; refine Fin.ext ?_
    match e with
    | ⟨0, _⟩ => rfl
    | ⟨1, _⟩ => rfl
  have hst : scatter_S1024_S64x1_S64_n_0_0_1.start (ix1 k) idx 0 = (b : ℤ) := by
    unfold ScatterDims.start
    rw [dif_pos (show _ ∈ scatter_S1024_S64x1_S64_n_0_0_1.scatterDimsToOperandDims from (by simp : (0 : Fin 1) ∈ ([0] : List (Fin 1))))]
    show (idx (scatter_S1024_S64x1_S64_n_0_0_1.siIdx (ix1 k) (0 : Fin 1))).toInt = (b : ℤ)
    rw [hs, h, toInt_word b (by omega)]
  have hin : ∀ e : Fin S1024.rank, 0 ≤ scatter_S1024_S64x1_S64_n_0_0_1.start (ix1 k) idx e + (scatter_S1024_S64x1_S64_n_0_0_1.window (ix1 k) e : ℤ)
      ∧ scatter_S1024_S64x1_S64_n_0_0_1.start (ix1 k) idx e + (scatter_S1024_S64x1_S64_n_0_0_1.window (ix1 k) e : ℤ) < (S1024.size e : ℤ) := fun e => by
    match e with
    | ⟨0, _⟩ =>
      show 0 ≤ scatter_S1024_S64x1_S64_n_0_0_1.start (ix1 k) idx 0 + (scatter_S1024_S64x1_S64_n_0_0_1.window (ix1 k) 0 : ℤ)
        ∧ scatter_S1024_S64x1_S64_n_0_0_1.start (ix1 k) idx 0 + (scatter_S1024_S64x1_S64_n_0_0_1.window (ix1 k) 0 : ℤ) < (1024 : ℤ)
      rw [hw, hst]; constructor <;> omega
  unfold ScatterDims.resultIdx?
  rw [dif_pos hin]
  constructor
  · intro g
    have g0 := congrArg Fin.val (congrFun (Option.some.inj g) 0)
    change (scatter_S1024_S64x1_S64_n_0_0_1.start (ix1 k) idx 0 + (scatter_S1024_S64x1_S64_n_0_0_1.window (ix1 k) 0 : ℤ)).toNat = t.val at g0
    rw [hw, hst] at g0
    omega
  · intro g
    refine congrArg some (funext fun e => Fin.ext ?_)
    match e with
    | ⟨0, _⟩ =>
      show (scatter_S1024_S64x1_S64_n_0_0_1.start (ix1 k) idx 0 + (scatter_S1024_S64x1_S64_n_0_0_1.window (ix1 k) 0 : ℤ)).toNat = t.val
      rw [hw, hst]
      omega
end

/-! ## The index words -/

theorem slt_zero (n : ℕ) (h : n < 2 ^ 31) : IntOp.cmpi .slt (BitVec.ofNat 32 n) 0#32 = 0#1 := by
  unfold IntOp.cmpi
  have e : (BitVec.ofNat 32 n).slt 0#32 = false := by
    rw [BitVec.slt, toInt_word n h]; simp
  simp [e]

theorem wrap_apply (N : BitVec 32) (x : IVec S64 32) (k : Fin 64) (n : ℕ) (h : n < 2 ^ 31) (hx : x (ix1 k) = BitVec.ofNat 32 n) :
    wrap N x (ix1 k) = BitVec.ofNat 32 n := by
  have e : wrap N x (ix1 k) = Scalar.select (IntOp.cmpi .slt (x (ix1 k)) 0#32) (IntOp.addi (x (ix1 k)) N) (x (ix1 k)) := by
    pointwise [wrap, words]
  rw [e, hx, slt_zero n h]
  rfl

theorem colIx_apply (cols : IVec S64 32) (k : Fin 64) (b : ℕ) (hb : b < 2 ^ 31) (h : cols (ix1 k) = BitVec.ofNat 32 b) :
    colIx cols (ix2 k 0) = BitVec.ofNat 32 b := by
  have e : colIx cols (ix2 k 0) = wrap 1024#32 cols (ix1 k) := by pointwise [colIx]
  rw [e, wrap_apply _ _ _ b hb h]

variable {F : FTy → Type} [FloatOps F]

theorem pick_apply (x : FVec F S16384x1024 .f32) (rows cols : IVec S64 32) (k : Fin 64) (a b : ℕ) (ha : a < 16384) (hb : b < 1024)
    (h0 : rows (ix1 k) = BitVec.ofNat 32 a) (h1 : cols (ix1 k) = BitVec.ofNat 32 b) :
    pick x rows cols (ix1 k) = x (ix2 ⟨a, ha⟩ ⟨b, hb⟩) := by
  unfold pick
  refine gather_pair x _ k a b ha hb ?_ ?_
  · rw [← wrap_apply 16384#32 rows k a (by omega) h0]; pointwise []
  · rw [← colIx_apply cols k b (by omega) h1]; pointwise []

theorem updates_apply (wind : FVec F S1024 .f32) (cols : IVec S64 32) (cnt ours : FVec F S64 .f32) (k : Fin 64) (b : ℕ) (hb : b < 1024)
    (h : cols (ix1 k) = BitVec.ofNat 32 b) :
    updates wind cols cnt ours (ix1 k) = FloatOps.subf (FloatOps.addf (wind (ix1 ⟨b, hb⟩)) (cnt (ix1 k))) (ours (ix1 k)) := by
  rw [← gather_place wind (colIx cols) k b hb (colIx_apply cols k b (by omega) h)]
  rfl

/-- The clamp: a row where there is one, else the first. -/
theorem clampRows_apply (x : IVec S64 32) (k : Fin 64) (h0 : -1 ≤ (x (ix1 k)).toInt) (h1 : (x (ix1 k)).toInt < 16383) :
    clampRows x (ix1 k) = BitVec.ofNat 32 (x (ix1 k)).toInt.toNat := by
  have e : clampRows x (ix1 k) = IntOp.minsi 16382#32 (IntOp.maxsi 0#32 (x (ix1 k))) := by
    pointwise [clampRows]; rfl
  rw [e]
  generalize x (ix1 k) = w at *
  refine BitVec.eq_of_toInt_eq ?_
  rw [toInt_word _ (by omega), SortNet.toInt_minsi, SortNet.toInt_maxsi]
  have a : (16382#32 : BitVec 32).toInt = 16382 := by decide
  have b : (0#32 : BitVec 32).toInt = 0 := by decide
  rw [a, b]
  omega

theorem nextRows_apply (x : IVec S64 32) (k : Fin 64) (n : ℕ) (h : x (ix1 k) = BitVec.ofNat 32 n) : nextRows x (ix1 k) = BitVec.ofNat 32 (n + 1) := by
  have e : nextRows x (ix1 k) = IntOp.addi (x (ix1 k)) 1#32 := by pointwise [nextRows, words]
  rw [e, h]
  exact (BitVec.ofNat_add n 1).symm

end Cert.KernelIdeal.Vortex

end
-- ==== Proof.Select.lean ====
/- Integers: the last row of a set of rows as a running maximum, the count of columns that have one, and the columns a
   top-k takes: where at most `k` columns have such a row, every one of them is taken. -/
module

public import Idealize.ShloMosaic.Lib.SortFacts
public import Idealize.ShloMosaic.Lib.SortNet.Extract
public import Idealize.ShloMosaic.Lib.WordSum
public import Idealize.ShloMosaic.Lib.Pointwise

@[expose] public section

noncomputable section

namespace Cert.Winding

open Idealize.ShloMosaic

/-! ## The last of a set of rows -/

/-- `v` is the greatest row of `S` at which `P` holds, or `-1` where there is none. -/
structure IsLast (P : ℕ → Prop) (S : Set ℕ) (v : ℤ) : Prop where
  ge : -1 ≤ v
  mem : v = -1 ∨ ∃ n ∈ S, P n ∧ v = n
  le : ∀ n ∈ S, P n → (n : ℤ) ≤ v

theorem IsLast.union {P : ℕ → Prop} {S T : Set ℕ} {v w : ℤ} (h : IsLast P S v) (g : IsLast P T w) : IsLast P (S ∪ T) (max v w) where
  ge := le_max_of_le_left h.ge
  mem := by
    rcases max_choice v w with e | e <;> rw [e]
    · exact h.mem.imp_right fun ⟨n, hn, hp, he⟩ => ⟨n, Or.inl hn, hp, he⟩
    · exact g.mem.imp_right fun ⟨n, hn, hp, he⟩ => ⟨n, Or.inr hn, hp, he⟩
  le n hn hp := hn.elim (fun h' => le_max_of_le_left (h.le n h' hp)) fun h' => le_max_of_le_right (g.le n h' hp)

theorem IsLast.unique {P : ℕ → Prop} {S : Set ℕ} {v w : ℤ} (h : IsLast P S v) (g : IsLast P S w) : v = w := by
  apply le_antisymm
  · rcases h.mem with e | ⟨n, hn, hp, e⟩
    · rw [e]; exact g.ge
    · rw [e]; exact g.le n hn hp
  · rcases g.mem with e | ⟨n, hn, hp, e⟩
    · rw [e]; exact h.ge
    · rw [e]; exact h.le n hn hp

/-- One row. -/
theorem isLast_single (P : ℕ → Prop) (n : ℕ) [Decidable (P n)] : IsLast P {n} (if P n then (n : ℤ) else -1) := by
  by_cases h : P n
  · rw [if_pos h]; exact ⟨by omega, Or.inr ⟨n, rfl, h, rfl⟩, fun k hk _ => by rw [Set.mem_singleton_iff.mp hk]⟩
  · rw [if_neg h]; exact ⟨le_rfl, Or.inl rfl, fun k hk hp => absurd (Set.mem_singleton_iff.mp hk ▸ hp) h⟩

theorem IsLast.nonneg_iff {P : ℕ → Prop} {S : Set ℕ} {v : ℤ} (h : IsLast P S v) : 0 ≤ v ↔ ∃ n ∈ S, P n := by
  constructor
  · intro g
    rcases h.mem with e | ⟨n, hn, hp, e⟩
    · omega
    · exact ⟨n, hn, hp⟩
  · rintro ⟨n, hn, hp⟩
    have := h.le n hn hp
    omega

/-- The signed maximum of words over a nonempty set, from the least word, is one of them and at least each. -/
theorem fold_maxsi {ι : Type} [DecidableEq ι] (f : ι → BitVec 32) (s : Finset ι) :
    (s.fold IntOp.maxsi 0x80000000#32 f = 0x80000000#32 ∨ ∃ i ∈ s, s.fold IntOp.maxsi 0x80000000#32 f = f i)
      ∧ ∀ i ∈ s, (f i).toInt ≤ (s.fold IntOp.maxsi 0x80000000#32 f).toInt := by
  induction s using Finset.induction_on with
  | empty => exact ⟨Or.inl Finset.fold_empty, fun i hi => absurd hi (Finset.notMem_empty i)⟩
  | insert a s ha ih =>
    rw [Finset.fold_insert ha]
    refine ⟨?_, fun i hi => ?_⟩
    · have hc : ∀ x y : BitVec 32, IntOp.maxsi x y = x ∨ IntOp.maxsi x y = y := fun x y => by
        unfold IntOp.maxsi; split
        · exact Or.inl rfl
        · exact Or.inr rfl
      rcases hc (f a) (s.fold IntOp.maxsi 0x80000000#32 f) with e | e <;> rw [e]
      · exact Or.inr ⟨a, Finset.mem_insert_self a s, rfl⟩
      · exact ih.1.imp_right fun ⟨i, hi, h⟩ => ⟨i, Finset.mem_insert_of_mem hi, h⟩
    · rw [SortNet.toInt_maxsi]
      rcases Finset.mem_insert.mp hi with rfl | h
      · exact le_max_left _ _
      · exact le_max_of_le_right (ih.2 i h)

/-- The fold over `N` rows of "the row's number where `P`, else -1" is the last of them. -/
theorem isLast_fold (P : ℕ → Prop) {N : ℕ} (hN : 0 < N) (f : Fin N → BitVec 32) (hf : ∀ k : Fin N, P k.val → (f k).toInt = k.val)
    (hf' : ∀ k : Fin N, ¬P k.val → (f k).toInt = -1) :
    IsLast P {n | n < N} ((Finset.univ.fold IntOp.maxsi 0x80000000#32 f).toInt) := by
  obtain ⟨h1, h2⟩ := fold_maxsi f Finset.univ
  have hge : ∀ k : Fin N, -1 ≤ (f k).toInt := fun k => by
    by_cases h : P k.val
    · rw [hf k h]; omega
    · rw [hf' k h]
  have hge' : -1 ≤ (Finset.univ.fold IntOp.maxsi 0x80000000#32 f).toInt := le_trans (hge ⟨0, hN⟩) (h2 ⟨0, hN⟩ (Finset.mem_univ _))
  refine ⟨hge', ?_, fun n hn hp => by have := h2 ⟨n, hn⟩ (Finset.mem_univ _); rwa [hf ⟨n, hn⟩ hp] at this⟩
  rcases h1 with e | ⟨i, -, e⟩
  · rw [e] at hge'; exact absurd hge' (by decide)
  · rw [e]
    by_cases h : P i.val
    · exact Or.inr ⟨i.val, i.isLt, h, hf i h⟩
    · exact Or.inl (hf' i h)

/-- Rows moved up by a base. -/
theorem IsLast.shift {P : ℕ → Prop} {N : ℕ} (b : ℕ) {v : ℤ} (h : IsLast (fun n => P (b + n)) {n | n < N} v) :
    IsLast P {n | b ≤ n ∧ n < b + N} (if 0 ≤ v then v + b else -1) := by
  have key := h.nonneg_iff
  refine ⟨by split <;> omega, ?_, fun n hn hp => ?_⟩
  · split
    · rename_i h0
      rcases h.mem with e | ⟨n, hn, hp, e⟩
      · omega
      · exact Or.inr ⟨b + n, ⟨by omega, by have : n < N := hn; omega⟩, hp, by rw [e]; push_cast; ring⟩
    · exact Or.inl rfl
  · obtain ⟨h1, h2⟩ := hn
    have hs := h.le (n - b) (show n - b < N by omega) (by show P (b + (n - b)); rwa [Nat.add_sub_cancel' h1])
    rw [if_pos (by omega)]; omega

/-! ## The columns a top-k takes -/

/-- The count of the ones among `n` words is that of the places that hold a one. -/
theorem count_words {n : ℕ} (hn : n < 2 ^ 31) (p : Fin n → Prop) [DecidablePred p] (g : Fin n → BitVec 32)
    (hg : ∀ i, g i = if p i then 1#32 else 0#32) : (∑ i, g i).toInt = (Finset.univ.filter p).card := by
  have e : ∀ i, (g i).toNat = if p i then 1 else 0 := fun i => by rw [hg i]; split <;> rfl
  have hs : ∑ i, (g i).toNat = (Finset.univ.filter p).card := by
    rw [Finset.card_filter]; exact Finset.sum_congr rfl fun i _ => e i
  have hc : (Finset.univ.filter p).card ≤ n := (Finset.card_le_univ _).trans (by rw [Fintype.card_fin])
  have ht : (∑ i, g i).toNat = (Finset.univ.filter p).card := by
    rw [WordSum.toNat_sum _ _ (by rw [hs]; omega), hs]
  rw [BitVec.toInt_eq_toNat_of_lt (by omega), ht]

/-- A sort of `n` signed words, the greatest first: a permutation that orders them. -/
theorem sorted_desc {n : ℕ} (x : Fin n → BitVec 32) :
    let σ := sortedFrom (fun k k' => IntOp.cmpi .sgt (x k) (x k') == 1#1)
    Function.Bijective σ ∧ ∀ i j, i < j → (x (σ j)).toInt ≤ (x (σ i)).toInt := by
  intro σ
  have hB : ∀ a b : BitVec 32, (IntOp.cmpi .sgt a b == 1#1) = decide (b.toInt < a.toInt) := fun a b => by
    show (BitVec.ofBool (b.slt a) == 1#1) = b.slt a
    cases b.slt a <;> rfl
  refine ⟨⟨sortedFrom_injective _, sortedFrom_surjective _⟩, fun i j hij => ?_⟩
  have h := sortedFrom_noInversion (fun k k' => IntOp.cmpi .sgt (x k) (x k') == 1#1) (fun k k' => IntOp.cmpi .sgt (x k) (x k') == 1#1)
    (fun a b h => by rw [hB] at h ⊢; have := of_decide_eq_true h; exact decide_eq_false (by omega)) (fun _ _ h => h)
    (fun a b c h g => by
      rw [hB] at h g ⊢; have h := of_decide_eq_false h; have g := of_decide_eq_false g; exact decide_eq_false (by omega)) i j hij
  rw [hB] at h
  exact not_lt.mp (of_decide_eq_false h)

/-- Where at most `m` places hold a word as large as a place's, the first `m` of the sorted order take that place. -/
theorem taken_of_card {n m : ℕ} (x : Fin n → BitVec 32) (σ : Fin n → Fin n) (hσ : Function.Bijective σ)
    (hs : ∀ i j, i < j → (x (σ j)).toInt ≤ (x (σ i)).toInt) (t : Fin n)
    (hm : (Finset.univ.filter fun i => (x t).toInt ≤ (x i).toInt).card ≤ m) : ∃ k : Fin n, k.val < m ∧ σ k = t := by
  obtain ⟨k, rfl⟩ := hσ.2 t
  refine ⟨k, ?_, rfl⟩
  by_contra hk
  have hsub : (Finset.univ.filter fun i : Fin n => i ≤ k).image σ ⊆ Finset.univ.filter fun i => (x (σ k)).toInt ≤ (x i).toInt := by
    intro i hi
    obtain ⟨j, hj, rfl⟩ := Finset.mem_image.mp hi
    have hj : j ≤ k := (Finset.mem_filter.mp hj).2
    refine Finset.mem_filter.mpr ⟨Finset.mem_univ _, ?_⟩
    rcases hj.lt_or_eq with h | rfl
    · exact hs j k h
    · exact le_refl _
  have hc := Finset.card_le_card hsub
  rw [Finset.card_image_of_injective _ hσ.1] at hc
  have : (Finset.univ.filter fun i : Fin n => i ≤ k).card = k.val + 1 := by
    rw [Finset.filter_ge_eq_Iic, Fin.card_Iic]
  omega

theorem along_vector {n : ℕ} (j : (⟨1, ![n]⟩ : Shape).Idx) (h : 0 < (⟨1, ![n]⟩ : Shape).rank) (a : Fin n) :
    j.along ⟨0, h⟩ a = ix1 a := by
  funext b; obtain rfl : b = ⟨0, h⟩ := Subsingleton.elim (α := Fin 1) _ _; exact Function.update_self _ _ _

/-- A sort of a vector together with another. -/
theorem sort2_vector {n : ℕ} {α β : Type} (cmp : α × β → α × β → BitVec 1) (x : (⟨1, ![n]⟩ : Shape).Idx → α)
    (y : (⟨1, ![n]⟩ : Shape).Idx → β) :
    Host.sort2 ⟨1, ![n]⟩ 0 cmp x y
      = (fun j => x (ix1 (sortedFrom (fun a b : Fin n => cmp (x (ix1 a), y (ix1 a)) (x (ix1 b), y (ix1 b)) == 1#1) (j 0))),
         fun j => y (ix1 (sortedFrom (fun a b : Fin n => cmp (x (ix1 a), y (ix1 a)) (x (ix1 b), y (ix1 b)) == 1#1) (j 0)))) := by
  have hS : ∀ j : (⟨1, ![n]⟩ : Shape).Idx,
      (fun a b : Fin n => cmp (x (j.along ⟨0, Nat.one_pos⟩ a), y (j.along ⟨0, Nat.one_pos⟩ a))
        (x (j.along ⟨0, Nat.one_pos⟩ b), y (j.along ⟨0, Nat.one_pos⟩ b)) == 1#1)
      = fun a b : Fin n => cmp (x (ix1 a), y (ix1 a)) (x (ix1 b), y (ix1 b)) == 1#1 := fun j => by
    funext a b; rw [along_vector, along_vector]
  unfold Host.sort2
  rw [dif_pos Nat.one_pos]
  refine Prod.ext (funext fun j => ?_) (funext fun j => ?_)
  · exact (congrArg x (along_vector j Nat.one_pos _)).trans (congrArg (fun f => x (ix1 (sortedFrom f (j 0)))) (hS j))
  · exact (congrArg y (along_vector j Nat.one_pos _)).trans (congrArg (fun f => y (ix1 (sortedFrom f (j 0)))) (hS j))

/-- A top-k of a vector of signed words: the values and the places of the first of the sorted order. -/
theorem topK_apply {n m : ℕ} (x : (⟨1, ![n]⟩ : Shape).Idx → BitVec 32) (h : (⟨1, ![n]⟩ : Shape).Slices (fun _ => 0) ⟨1, ![m]⟩)
    (k : Fin m) (hk : k.val < n) :
    (Host.topK ⟨1, ![m]⟩ 0 (IntOp.cmpi .sgt) x h).1 (ix1 k)
        = x (ix1 (sortedFrom (fun a b : Fin n => IntOp.cmpi .sgt (x (ix1 a)) (x (ix1 b)) == 1#1) ⟨k.val, hk⟩))
      ∧ (Host.topK ⟨1, ![m]⟩ 0 (IntOp.cmpi .sgt) x h).2 (ix1 k)
        = BitVec.ofNat 32 (sortedFrom (fun a b : Fin n => IntOp.cmpi .sgt (x (ix1 a)) (x (ix1 b)) == 1#1) ⟨k.val, hk⟩).val := by
  have hj : ∀ p : 0 + k.val < n, (⟨0 + k.val, p⟩ : Fin n) = ⟨k.val, hk⟩ := fun _ => Fin.ext (Nat.zero_add _)
  have e := sort2_vector (n := n) (fun l r : BitVec 32 × BitVec 32 => IntOp.cmpi .sgt l.1 r.1) x
    (iotaInDim (⟨1, ![n]⟩ : Shape) 32 ⟨0, Nat.one_pos⟩)
  constructor
  · refine (congrFun (congrArg (fun v => extractStridedSlice (⟨1, ![m]⟩ : Shape) (fun _ => 0) v.1 h) e) (ix1 k)).trans ?_
    exact congrArg (fun a => x (ix1 (sortedFrom (fun a b : Fin n => IntOp.cmpi .sgt (x (ix1 a)) (x (ix1 b)) == 1#1) a))) (hj _)
  · refine (congrFun (congrArg (fun v => extractStridedSlice (⟨1, ![m]⟩ : Shape) (fun _ => 0) v.2 h) e) (ix1 k)).trans ?_
    exact (congrArg (fun a => BitVec.ofNat 32 (sortedFrom (fun a b : Fin n => IntOp.cmpi .sgt (x (ix1 a)) (x (ix1 b)) == 1#1) a).val) (hj _))

end Cert.Winding

end
-- ==== Proof.Angle.lean ====
/- Angles of plane points, over the reals: how the sign of the cross product of two points tells whether the difference
   of their angles leaves the interval [-pi, pi], and the count the kernel makes of one pair. -/
module

public import Idealize.ShloMosaic.PureOps.Ideal
public import Mathlib.Analysis.SpecialFunctions.Complex.Arg
public import Mathlib.Analysis.SpecialFunctions.Trigonometric.Arctan

@[expose] public section

noncomputable section

namespace Cert.Winding

open Real Idealize.ShloMosaic

/-- The angle of the point `(x, y)`. -/
def ang (y x : ℝ) : ℝ := Complex.arg ⟨x, y⟩

theorem ang_le (y x : ℝ) : ang y x ≤ π := Complex.arg_le_pi _
theorem lt_ang (y x : ℝ) : -π < ang y x := Complex.neg_pi_lt_arg _
theorem ang_nonneg (y x : ℝ) : 0 ≤ ang y x ↔ 0 ≤ y := Complex.arg_nonneg_iff
theorem ang_neg (y x : ℝ) : ang y x < 0 ↔ y < 0 := Complex.arg_neg_iff

/-- The angle by quadrants, from the arctangent of the slope. -/
theorem ang_eq (y x : ℝ) : ang y x = if 0 < x then arctan (y / x)
    else if x < 0 then (if 0 ≤ y then arctan (y / x) + π else arctan (y / x) - π)
    else if 0 < y then π / 2 else if y < 0 then -(π / 2) else 0 := by
  unfold ang
  have ht : Real.tan (Complex.arg ⟨x, y⟩) = y / x := Complex.tan_arg ⟨x, y⟩
  split_ifs with hx hx' hy hy1 hy2
  · have h := Complex.abs_arg_lt_pi_div_two_iff.mpr (Or.inl hx : 0 < (⟨x, y⟩ : ℂ).re ∨ (⟨x, y⟩ : ℂ) = 0)
    rw [abs_lt] at h
    rw [← ht, arctan_tan h.1 h.2]
  · have h := mt (Complex.arg_le_pi_div_two_iff (z := (⟨x, y⟩ : ℂ))).mp (by rintro (h | h); exacts [absurd h (not_le.mpr hx'), absurd h (not_lt.mpr hy)])
    have h1 := Complex.arg_le_pi (⟨x, y⟩ : ℂ)
    have e : arctan (y / x) = Complex.arg ⟨x, y⟩ - π := by
      rw [← ht, ← Real.tan_sub_pi, arctan_tan] <;> linarith [not_le.mp h, pi_pos]
    rw [e]; ring
  · have h := mt (Complex.neg_pi_div_two_le_arg_iff (z := (⟨x, y⟩ : ℂ))).mp (by rintro (h | h); exacts [absurd h (not_le.mpr hx'), absurd h hy])
    have h1 := Complex.neg_pi_lt_arg (⟨x, y⟩ : ℂ)
    have e : arctan (y / x) = Complex.arg ⟨x, y⟩ + π := by
      rw [← ht, ← Real.tan_add_pi, arctan_tan] <;> linarith [not_le.mp h, pi_pos]
    rw [e]; ring
  · exact Complex.arg_eq_pi_div_two_iff.mpr ⟨le_antisymm (not_lt.mp hx) (not_lt.mp hx'), hy1⟩
  · exact Complex.arg_eq_neg_pi_div_two_iff.mpr ⟨le_antisymm (not_lt.mp hx) (not_lt.mp hx'), hy2⟩
  · have e : (⟨x, y⟩ : ℂ) = 0 := Complex.ext (le_antisymm (not_lt.mp hx) (not_lt.mp hx')) (le_antisymm (not_lt.mp hy1) (not_lt.mp hy2))
    rw [e, Complex.arg_zero]

/-- The operation's angle of a point with real coordinates. -/
theorem atan2_coe (y x : ℝ) : Ideal.atan2 (y : EReal) (x : EReal) = ((ang y x : ℝ) : EReal) := by
  rw [ang_eq]; rfl

/-- The cross product is a positive multiple of the sine of the difference of the angles. -/
theorem cross_eq (x0 y0 x1 y1 : ℝ) :
    x0 * y1 - y0 * x1 = ‖(⟨x0, y0⟩ : ℂ)‖ * ‖(⟨x1, y1⟩ : ℂ)‖ * sin (ang y1 x1 - ang y0 x0) := by
  have a0 := Complex.norm_mul_cos_arg ⟨x0, y0⟩
  have b0 := Complex.norm_mul_sin_arg ⟨x0, y0⟩
  have a1 := Complex.norm_mul_cos_arg ⟨x1, y1⟩
  have b1 := Complex.norm_mul_sin_arg ⟨x1, y1⟩
  dsimp only at a0 b0 a1 b1
  rw [sin_sub]; unfold ang
  generalize Complex.arg ⟨x0, y0⟩ = A at *
  generalize Complex.arg ⟨x1, y1⟩ = B at *
  generalize ‖(⟨x0, y0⟩ : ℂ)‖ = P at *
  generalize ‖(⟨x1, y1⟩ : ℂ)‖ = Q at *
  rw [← a0, ← b0, ← a1, ← b1]
  ring

theorem norm_pos_of_im (x y : ℝ) (h : y ≠ 0) : 0 < ‖(⟨x, y⟩ : ℂ)‖ :=
  norm_pos_iff.mpr fun e => h (congrArg Complex.im e)

/-- From the upper half plane down: the difference of the angles is below `-pi` exactly when the cross product is positive, -/
theorem down_iff (x0 y0 x1 y1 : ℝ) (h0 : 0 < y0) (h1 : y1 < 0) : ang y1 x1 - ang y0 x0 < -π ↔ 0 < x0 * y1 - y0 * x1 := by
  rw [cross_eq, mul_pos_iff_of_pos_left (mul_pos (norm_pos_of_im x0 y0 h0.ne') (norm_pos_of_im x1 y1 h1.ne))]
  have l1 := lt_ang y1 x1; have n1 := (ang_neg y1 x1).mpr h1
  have u0 := ang_le y0 x0; have n0 := (ang_nonneg y0 x0).mpr h0.le
  have lo : -(2 * π) < ang y1 x1 - ang y0 x0 := by linarith
  have hi : ang y1 x1 - ang y0 x0 < 0 := by linarith
  generalize ang y1 x1 - ang y0 x0 = d at lo hi
  constructor
  · intro h
    rw [← sin_add_two_pi]
    exact sin_pos_of_pos_of_lt_pi (by linarith) (by linarith)
  · intro h
    by_contra g
    exact absurd h (not_lt.mpr (sin_nonpos_of_nonpos_of_neg_pi_le hi.le (not_lt.mp g)))

/-- and from the lower half plane up: it is above `pi` exactly when the cross product is negative. -/
theorem up_iff (x0 y0 x1 y1 : ℝ) (h0 : y0 < 0) (h1 : 0 < y1) : π < ang y1 x1 - ang y0 x0 ↔ x0 * y1 - y0 * x1 < 0 := by
  have h := down_iff x1 y1 x0 y0 h1 h0
  constructor
  · intro g; have := h.mp (by linarith); linarith
  · intro g; have := h.mpr (by linarith); linarith

/-- The sign the kernel takes: a zero counts as positive. -/
def sgn (x : ℝ) : ℝ := if x < 0 then -1 else 1

/-- The whole turns to add to the difference `d` of two angles. -/
def turns (d : ℝ) : ℝ := (if d < -π then 1 else 0) - (if π < d then 1 else 0)

/-- The half turn downward through the origin, which the kernel counts as a whole turn. -/
def halfTurn (x0 y0 x1 y1 : ℝ) : ℝ := if x0 * y1 - y0 * x1 = 0 ∧ 0 < y0 ∧ y1 < 0 then 1 else 0

/-- The reference's unwrapping of a difference is adding its turns. -/
theorem unwrap_eq (d : ℝ) : (if (if π < d then d - 2 * π else d) < -π then (if π < d then d - 2 * π else d) + 2 * π
      else (if π < d then d - 2 * π else d)) = d + turns d * (2 * π) := by
  unfold turns
  have := pi_pos
  by_cases h : π < d
  · rw [if_pos h, if_pos h, if_neg (by linarith), if_neg (by linarith)]; ring
  · rw [if_neg h, if_neg h]
    by_cases g : d < -π
    · rw [if_pos g, if_pos g]; ring
    · rw [if_neg g, if_neg g]; ring

/-- The kernel's count of one pair, times four, is the turns the reference adds, but for a half turn downward. -/
theorem count_eq (x0 y0 x1 y1 : ℝ) (hz : ¬(y0 = 0 ∧ y1 < 0)) (hz' : ¬(y0 < 0 ∧ y1 = 0)) :
    sgn y0 - sgn y1 + (sgn (x0 * y1 - y0 * x1) - sgn (y0 * y1) * sgn (x0 * y1 - y0 * x1))
      = 4 * (turns (ang y1 x1 - ang y0 x0) + halfTurn x0 y0 x1 y1) := by
  have l0 := lt_ang y0 x0; have u0 := ang_le y0 x0
  have l1 := lt_ang y1 x1; have u1 := ang_le y1 x1
  rcases lt_or_ge y0 0 with h0 | h0 <;> rcases lt_or_ge y1 0 with h1 | h1
  · have n0 := (ang_neg y0 x0).mpr h0; have n1 := (ang_neg y1 x1).mpr h1
    have g0 : ¬(π < ang y1 x1 - ang y0 x0) := by linarith
    have g1 : ¬(ang y1 x1 - ang y0 x0 < -π) := by linarith
    unfold turns halfTurn sgn
    rw [if_neg (show ¬(x0 * y1 - y0 * x1 = 0 ∧ 0 < y0 ∧ y1 < 0) from fun h => absurd h.2.1 (not_lt.mpr h0.le)),
      if_neg (not_lt.mpr (mul_pos_of_neg_of_neg h0 h1).le), if_pos h0, if_pos h1, if_neg g0, if_neg g1]
    ring
  · have p1 : 0 < y1 := lt_of_le_of_ne h1 fun e => hz' ⟨h0, e.symm⟩
    have n0 := (ang_neg y0 x0).mpr h0; have n1 := (ang_nonneg y1 x1).mpr h1
    have hu := up_iff x0 y0 x1 y1 h0 p1
    unfold turns halfTurn sgn
    rw [if_neg (show ¬(x0 * y1 - y0 * x1 = 0 ∧ 0 < y0 ∧ y1 < 0) from fun h => absurd h.2.1 (not_lt.mpr h0.le)),
      if_pos (mul_neg_of_neg_of_pos h0 p1), if_pos h0, if_neg (not_lt.mpr h1),
      if_neg (show ¬(ang y1 x1 - ang y0 x0 < -π) by linarith [pi_pos])]
    simp only [hu]
    split_ifs <;> ring
  · have p0 : 0 < y0 := lt_of_le_of_ne h0 fun e => hz ⟨e.symm, h1⟩
    have n0 := (ang_nonneg y0 x0).mpr h0; have n1 := (ang_neg y1 x1).mpr h1
    have hd := down_iff x0 y0 x1 y1 p0 h1
    unfold turns halfTurn sgn
    rw [if_pos (mul_neg_of_pos_of_neg p0 h1), if_neg (not_lt.mpr h0), if_pos h1,
      if_neg (show ¬(π < ang y1 x1 - ang y0 x0) by linarith [pi_pos])]
    simp only [hd, p0, h1, and_true]
    rcases lt_trichotomy (x0 * y1 - y0 * x1) 0 with h | h | h
    · rw [if_pos h, if_neg h.not_gt, if_neg h.ne]; ring
    · rw [h, if_neg (lt_irrefl _), if_neg (lt_irrefl _), if_pos rfl]; ring
    · rw [if_neg h.not_gt, if_pos h, if_neg h.ne']; ring
  · have n0 := (ang_nonneg y0 x0).mpr h0; have n1 := (ang_nonneg y1 x1).mpr h1
    have g0 : ¬(π < ang y1 x1 - ang y0 x0) := by linarith
    have g1 : ¬(ang y1 x1 - ang y0 x0 < -π) := by linarith
    unfold turns halfTurn sgn
    rw [if_neg (show ¬(x0 * y1 - y0 * x1 = 0 ∧ 0 < y0 ∧ y1 < 0) from fun h => absurd h.2.2 (not_lt.mpr h1)),
      if_neg (not_lt.mpr (mul_nonneg h0 h1)), if_neg (not_lt.mpr h0), if_neg (not_lt.mpr h1), if_neg g0, if_neg g1]
    ring

end Cert.Winding

end
-- ==== Proof.Column.lean ====
/- One column, as the two sequences of its real and imaginary parts: what the kernel adds up of it. -/
module

public import proofs.«01_k».proof.Proof.Select
public import proofs.«01_k».proof.Proof.Angle
public import Idealize.ShloMosaic.Lib.IdealHost

@[expose] public section

noncomputable section

namespace Cert.Winding

open Idealize.ShloMosaic

/-- Column `q` of an array of 16384 rows, by row. -/
def col (x : (⟨2, ![16384, 1024]⟩ : Shape).Idx → EReal) (q : Fin 1024) : ℕ → EReal :=
  fun n => if h : n < 16384 then x (ix2 ⟨n, h⟩ q) else 0

theorem col_apply (x : (⟨2, ![16384, 1024]⟩ : Shape).Idx → EReal) (q : Fin 1024) (n : Fin 16384) : col x q n.val = x (ix2 n q) :=
  dif_pos n.isLt

theorem col_of_lt (x : (⟨2, ![16384, 1024]⟩ : Shape).Idx → EReal) (q : Fin 1024) {n : ℕ} (h : n < 16384) :
    x (ix2 ⟨n, h⟩ q) = col x q n := (col_apply x q ⟨n, h⟩).symm

/-- The sign, one at zero. -/
def sg (x : EReal) : EReal := if x < 0 then Ideal.ofBits .f32 0xBF800000#32 else 1

/-- The determinant of a point and the next, and the product of their imaginary parts. -/
def cr (X Y : ℕ → EReal) (n : ℕ) : EReal := X n * Y (n + 1) - Y n * X (n + 1)
def pr (Y : ℕ → EReal) (n : ℕ) : EReal := Y n * Y (n + 1)

/-- What a pair adds to the sum: twice the sign of the determinant where the imaginary part changes sign. -/
def wt (X Y : ℕ → EReal) (n : ℕ) : EReal := sg (cr X Y n) - sg (pr Y n) * sg (cr X Y n)

/-- The threshold of the test below. -/
def tiny : EReal := Ideal.ofBits .f32 0x322BCC77#32

/-- A pair whose imaginary part changes sign next to the origin. -/
def Near (X Y : ℕ → EReal) (n : ℕ) : Prop := pr Y n < 0 ∧ FloatOps.absf (F := Ideal) (φ := .f32) (cr X Y n) < tiny

/-- The kernel's form of the test. -/
theorem near_iff (X Y : ℕ → EReal) (n : ℕ) :
    0 < min (tiny - FloatOps.absf (F := Ideal) (φ := .f32) (cr X Y n)) (0 - pr Y n) ↔ Near X Y n := by
  rw [lt_min_iff, EReal.sub_pos, EReal.sub_pos, and_comm]; rfl

/-- The modulus of row `n`. -/
def md (X Y : ℕ → EReal) (n : ℕ) : EReal := Ideal.sqrt (X n * X n + Y n * Y n)

/-- The kernel's mean of the moduli: each block's sum scaled, added up. -/
def meanOf (X Y : ℕ → EReal) : EReal :=
  (((∑ k ∈ Finset.range 4096, md X Y (4096 * 0 + k)) * Ideal.ofBits .f32 0x38800000#32
    + (∑ k ∈ Finset.range 4096, md X Y (4096 * 1 + k)) * Ideal.ofBits .f32 0x38800000#32)
    + (∑ k ∈ Finset.range 4096, md X Y (4096 * 2 + k)) * Ideal.ofBits .f32 0x38800000#32)
    + (∑ k ∈ Finset.range 4096, md X Y (4096 * 3 + k)) * Ideal.ofBits .f32 0x38800000#32

/-- The constant two over pi. -/
def κ₂ : EReal := ((2 * Real.pi⁻¹ : ℝ) : EReal)

/-- The kernel's winding of a column. -/
def windOf (X Y : ℕ → EReal) : EReal :=
  ((((((∑ k ∈ Finset.range 4095, wt X Y (4096 * 0 + k)) + sg (Y 0)) - Ideal.atan2 (Y 0) (X 0) * κ₂)
      + ((∑ k ∈ Finset.range 4095, wt X Y (4096 * 1 + k)) + wt X Y 4095))
      + ((∑ k ∈ Finset.range 4095, wt X Y (4096 * 2 + k)) + wt X Y 8191))
      + ((∑ k ∈ Finset.range 4095, wt X Y (4096 * 3 + k)) + wt X Y 12287)
      - sg (Y 16383) + Ideal.atan2 (Y 16383) (X 16383) * κ₂) * Ideal.ofBits .f32 0x3E800000#32

end Cert.Winding

end
-- ==== Proof.Finite.lean ====
/- One column, over the real numbers: the two means agree in every column; where the mean is below the threshold every
   entry is a number, and there the kernel's winding is the reference's plus one for each exact half turn. -/
module

public import proofs.«01_k».proof.Proof.Column

@[expose] public section

noncomputable section

namespace Cert.Winding

open Idealize.ShloMosaic

/-! ## Constants -/

theorem word_neg_one : Ideal.ofBits .f32 0xBF800000#32 = ((-1 : ℝ) : EReal) := by
  simp [Ideal.ofBits, Ideal.ieee, -EReal.coe_mul, -EReal.coe_neg]; norm_num
theorem word_two : Ideal.ofBits .f32 0x40000000#32 = ((2 : ℝ) : EReal) := by
  simp [Ideal.ofBits, Ideal.ieee, -EReal.coe_mul]; norm_num
theorem word_quarter : Ideal.ofBits .f32 0x3E800000#32 = ((1 / 4 : ℝ) : EReal) := by
  simp [Ideal.ofBits, Ideal.ieee, -EReal.coe_mul]; norm_num
theorem word_rows : Ideal.ofBits .f32 0x46800000#32 = ((16384 : ℝ) : EReal) := by
  simp [Ideal.ofBits, Ideal.ieee, -EReal.coe_mul]; norm_num
theorem word_inv_rows : Ideal.ofBits .f32 0x38800000#32 = ((1 / 16384 : ℝ) : EReal) := by
  simp [Ideal.ofBits, Ideal.ieee, -EReal.coe_mul]; norm_num
theorem tiny_pos : 0 < tiny := by
  unfold tiny
  simp [Ideal.ofBits, Ideal.ieee, -EReal.coe_mul]

/-- The half circle, as the host writes it. -/
def piE : EReal := Ideal.atan2 0 (Ideal.ofBits .f32 0xBF800000#32)

theorem piE_eq : piE = ((Real.pi : ℝ) : EReal) := by
  unfold piE
  rw [word_neg_one, show (0 : EReal) = ((0 : ℝ) : EReal) from rfl, atan2_coe]
  congr 1
  unfold ang
  rw [show (⟨-1, 0⟩ : ℂ) = -1 from by apply Complex.ext <;> simp]
  exact Complex.arg_neg_one

/-! ## The reference's column -/

/-- The reference's mean of the moduli. -/
def meanRef (X Y : ℕ → EReal) : EReal :=
  Ideal.div (∑ k ∈ Finset.range 16384, md X Y k) (Ideal.ofBits .f32 0x46800000#32)

/-- The step of the angle, and that step taken into the half circle. -/
def step (X Y : ℕ → EReal) (n : ℕ) : EReal := Ideal.atan2 (Y (n + 1)) (X (n + 1)) - Ideal.atan2 (Y n) (X n)

def wrapped (X Y : ℕ → EReal) (n : ℕ) : EReal :=
  if (if piE < step X Y n then step X Y n - Ideal.ofBits .f32 0x40000000#32 * piE else step X Y n) < -piE then
    (if piE < step X Y n then step X Y n - Ideal.ofBits .f32 0x40000000#32 * piE else step X Y n) + Ideal.ofBits .f32 0x40000000#32 * piE
  else if piE < step X Y n then step X Y n - Ideal.ofBits .f32 0x40000000#32 * piE else step X Y n

/-- The reference's winding. -/
def windRef (X Y : ℕ → EReal) : EReal :=
  Ideal.div (∑ k ∈ Finset.range 16383, wrapped X Y k) (Ideal.ofBits .f32 0x40000000#32 * piE)

/-! ## The host's correction at a pair -/

/-- The full turns of a step, as the host counts them, and as the kernel's sum has them. -/
def cntHost (X Y : ℕ → EReal) (n : ℕ) : EReal := (if step X Y n < -piE then 1 else 0) - (if piE < step X Y n then 1 else 0)
def cntOurs (X Y : ℕ → EReal) (n : ℕ) : EReal :=
  ((sg (Y n) - sg (Y (n + 1)) + sg (cr X Y n)) - sg (Y n) * sg (Y (n + 1)) * sg (cr X Y n)) * Ideal.ofBits .f32 0x3E800000#32

/-! ## The means -/

theorem mul_self_nonneg' (x : EReal) : 0 ≤ x * x := by
  rcases le_total 0 x with h | h
  · exact EReal.mul_nonneg h h
  · have := EReal.mul_nonneg (EReal.neg_nonneg.mpr h) (EReal.neg_nonneg.mpr h)
    rwa [neg_mul_neg] at this

theorem sqrt_nonneg' {x : EReal} (h : 0 ≤ x) : 0 ≤ Ideal.sqrt x := by
  induction x with
  | bot => exact absurd h (by simp)
  | top => exact le_top
  | coe r =>
    have hr : ¬r < 0 := not_lt.mpr (EReal.coe_nonneg.mp h)
    show 0 ≤ (if r < 0 then (⊥ : EReal) else (Real.sqrt r : EReal))
    rw [if_neg hr]
    exact EReal.coe_nonneg.mpr (Real.sqrt_nonneg r)

theorem md_nonneg (X Y : ℕ → EReal) (n : ℕ) : 0 ≤ md X Y n :=
  sqrt_nonneg' (add_nonneg (mul_self_nonneg' _) (mul_self_nonneg' _))

theorem mean_eq (X Y : ℕ → EReal) : meanOf X Y = meanRef X Y := by
  have hn : ∀ b, 0 ≤ ∑ k ∈ Finset.range 4096, md X Y (b + k) := fun b => Finset.sum_nonneg fun k _ => md_nonneg X Y _
  have hs : ∑ k ∈ Finset.range 16384, md X Y k
      = ((∑ k ∈ Finset.range 4096, md X Y (4096 * 0 + k) + ∑ k ∈ Finset.range 4096, md X Y (4096 * 1 + k))
        + ∑ k ∈ Finset.range 4096, md X Y (4096 * 2 + k)) + ∑ k ∈ Finset.range 4096, md X Y (4096 * 3 + k) := by
    rw [show 16384 = ((4096 * 1 + 4096) + 4096) + 4096 from rfl, Finset.sum_range_add, Finset.sum_range_add, Finset.sum_range_add]
    simp only [Nat.mul_zero, zero_add, Nat.mul_one]
  unfold meanOf meanRef
  rw [hs, word_rows, word_inv_rows]
  unfold Ideal.div
  rw [if_neg (by norm_num), ← EReal.coe_inv,
    EReal.right_distrib_of_nonneg (add_nonneg (add_nonneg (hn _) (hn _)) (hn _)) (hn _),
    EReal.right_distrib_of_nonneg (add_nonneg (hn _) (hn _)) (hn _), EReal.right_distrib_of_nonneg (hn _) (hn _)]
  norm_num

/-- An infinite entry has an infinite modulus. -/
theorem md_top (X Y : ℕ → EReal) (n : ℕ) (h : X n = ⊤ ∨ X n = ⊥ ∨ Y n = ⊤ ∨ Y n = ⊥) : md X Y n = ⊤ := by
  have hx : X n * X n + Y n * Y n = ⊤ := by
    rcases h with e | e | e | e
    · rw [e, EReal.top_mul_top]
      exact EReal.top_add_of_ne_bot (fun h => absurd (mul_self_nonneg' (Y n)) (by rw [h]; simp))
    · rw [e, EReal.bot_mul_bot]
      exact EReal.top_add_of_ne_bot (fun h => absurd (mul_self_nonneg' (Y n)) (by rw [h]; simp))
    · rw [e, EReal.top_mul_top]
      exact EReal.add_top_of_ne_bot (fun h => absurd (mul_self_nonneg' (X n)) (by rw [h]; simp))
    · rw [e, EReal.bot_mul_bot]
      exact EReal.add_top_of_ne_bot (fun h => absurd (mul_self_nonneg' (X n)) (by rw [h]; simp))
  unfold md; rw [hx]; rfl

/-- Where the mean is below anything, every entry of the column is a number. -/
theorem finite_of_mean (X Y : ℕ → EReal) (z : EReal) (h : meanRef X Y < z) (n : ℕ) (hn : n < 16384) :
    (∃ x : ℝ, X n = x) ∧ ∃ y : ℝ, Y n = y := by
  by_cases hi : X n = ⊤ ∨ X n = ⊥ ∨ Y n = ⊤ ∨ Y n = ⊥
  · exfalso
    have hle := Finset.single_le_sum (f := md X Y) (fun k _ => md_nonneg X Y k) (Finset.mem_range.mpr hn)
    rw [md_top X Y n hi, top_le_iff] at hle
    unfold meanRef Ideal.div at h
    rw [hle, word_rows, if_neg (by norm_num), ← EReal.coe_inv, EReal.top_mul_coe_of_pos (by norm_num)] at h
    exact not_top_lt h
  · push Not at hi
    exact ⟨⟨(X n).toReal, (EReal.coe_toReal hi.1 hi.2.1).symm⟩, ⟨(Y n).toReal, (EReal.coe_toReal hi.2.2.1 hi.2.2.2).symm⟩⟩

/-! ## The windings -/

theorem sg_coe (x : ℝ) : sg (x : EReal) = ((sgn x : ℝ) : EReal) := by
  unfold sg sgn
  rw [word_neg_one]
  by_cases h : x < 0
  · rw [if_pos (EReal.coe_neg'.mpr h), if_pos h]
  · rw [if_neg (fun g => h (EReal.coe_neg'.mp g)), if_neg h]; rfl

/-- The real determinant of a pair. -/
def crR (x y : ℕ → ℝ) (n : ℕ) : ℝ := x n * y (n + 1) - y n * x (n + 1)
def wtR (x y : ℕ → ℝ) (n : ℕ) : ℝ := sgn (crR x y n) - sgn (y n * y (n + 1)) * sgn (crR x y n)
def an (x y : ℕ → ℝ) (n : ℕ) : ℝ := ang (y n) (x n)
def halfAt (x y : ℕ → ℝ) (n : ℕ) : ℝ := halfTurn (x n) (y n) (x (n + 1)) (y (n + 1))

section
variable {X Y : ℕ → EReal} {x y : ℕ → ℝ} {n : ℕ}

theorem cr_coe (h0 : X n = x n) (h1 : X (n + 1) = x (n + 1)) (g0 : Y n = y n) (g1 : Y (n + 1) = y (n + 1)) :
    cr X Y n = ((crR x y n : ℝ) : EReal) := by
  unfold cr crR; rw [h0, h1, g0, g1]; norm_cast

theorem wt_coe (h0 : X n = x n) (h1 : X (n + 1) = x (n + 1)) (g0 : Y n = y n) (g1 : Y (n + 1) = y (n + 1)) :
    wt X Y n = ((wtR x y n : ℝ) : EReal) := by
  unfold wt wtR pr; rw [cr_coe h0 h1 g0 g1, g0, g1, ← EReal.coe_mul, sg_coe, sg_coe]; norm_cast

theorem step_coe (h0 : X n = x n) (h1 : X (n + 1) = x (n + 1)) (g0 : Y n = y n) (g1 : Y (n + 1) = y (n + 1)) :
    step X Y n = ((an x y (n + 1) - an x y n : ℝ) : EReal) := by
  unfold step an; rw [h0, h1, g0, g1, atan2_coe, atan2_coe]; norm_cast

theorem wrapped_coe (h0 : X n = x n) (h1 : X (n + 1) = x (n + 1)) (g0 : Y n = y n) (g1 : Y (n + 1) = y (n + 1)) :
    wrapped X Y n = (((an x y (n + 1) - an x y n) + turns (an x y (n + 1) - an x y n) * (2 * Real.pi) : ℝ) : EReal) := by
  unfold wrapped
  rw [step_coe h0 h1 g0 g1, piE_eq, word_two, ← unwrap_eq]
  generalize an x y (n + 1) - an x y n = d
  simp only [← EReal.coe_mul, ← EReal.coe_sub, ← EReal.coe_neg, EReal.coe_lt_coe_iff]
  by_cases h : Real.pi < d
  · simp only [if_pos h, EReal.coe_lt_coe_iff]
    by_cases h' : d - 2 * Real.pi < -Real.pi
    · simp only [if_pos h']; norm_cast
    · simp only [if_neg h']
  · simp only [if_neg h, EReal.coe_lt_coe_iff]
    by_cases h' : d < -Real.pi
    · simp only [if_pos h']; norm_cast
    · simp only [if_neg h']

theorem cntHost_coe (h0 : X n = x n) (h1 : X (n + 1) = x (n + 1)) (g0 : Y n = y n) (g1 : Y (n + 1) = y (n + 1)) :
    cntHost X Y n = ((turns (an x y (n + 1) - an x y n) : ℝ) : EReal) := by
  unfold cntHost turns
  rw [step_coe h0 h1 g0 g1, piE_eq]
  generalize an x y (n + 1) - an x y n = d
  simp only [← EReal.coe_neg, EReal.coe_lt_coe_iff]
  by_cases h : d < -Real.pi
  · have h' : ¬Real.pi < d := by have := Real.pi_pos; linarith
    simp only [if_pos h, if_neg h']; norm_num
  · by_cases h' : Real.pi < d
    · simp only [if_neg h, if_pos h']; norm_num
    · simp only [if_neg h, if_neg h']; norm_num

theorem sgn_mul (a b : ℝ) (hz : ¬(a = 0 ∧ b < 0)) (hz' : ¬(a < 0 ∧ b = 0)) : sgn a * sgn b = sgn (a * b) := by
  unfold sgn
  rcases lt_trichotomy a 0 with h | h | h <;> rcases lt_trichotomy b 0 with g | g | g
  · rw [if_pos h, if_pos g, if_neg (not_lt.mpr (mul_pos_of_neg_of_neg h g).le)]; norm_num
  · exact absurd ⟨h, g⟩ hz'
  · rw [if_pos h, if_neg (not_lt.mpr g.le), if_pos (mul_neg_of_neg_of_pos h g)]; norm_num
  · exact absurd ⟨h, g⟩ hz
  · subst h; subst g; simp
  · subst h; simp [not_lt.mpr g.le]
  · rw [if_neg (not_lt.mpr h.le), if_pos g, if_pos (mul_neg_of_pos_of_neg h g)]; norm_num
  · subst g; simp [not_lt.mpr h.le]
  · rw [if_neg (not_lt.mpr h.le), if_neg (not_lt.mpr g.le), if_neg (not_lt.mpr (mul_pos h g).le)]; norm_num

theorem cntOurs_coe (h0 : X n = x n) (h1 : X (n + 1) = x (n + 1)) (g0 : Y n = y n) (g1 : Y (n + 1) = y (n + 1))
    (hz : ¬(y n = 0 ∧ y (n + 1) < 0)) (hz' : ¬(y n < 0 ∧ y (n + 1) = 0)) :
    cntOurs X Y n = ((turns (an x y (n + 1) - an x y n) + halfAt x y n : ℝ) : EReal) := by
  have e := count_eq (x n) (y n) (x (n + 1)) (y (n + 1)) hz hz'
  unfold cntOurs
  rw [cr_coe h0 h1 g0 g1, g0, g1, sg_coe, sg_coe, sg_coe, word_quarter]
  have e' : (sgn (y n) - sgn (y (n + 1)) + sgn (crR x y n) - sgn (y n) * sgn (y (n + 1)) * sgn (crR x y n)) * (1 / 4)
      = turns (an x y (n + 1) - an x y n) + halfAt x y n := by
    rw [sgn_mul _ _ hz hz']
    unfold an halfAt crR
    linarith
  rw [← e']; norm_cast
end

theorem coe_sum (s : Finset ℕ) (f : ℕ → ℝ) : ((∑ k ∈ s, f k : ℝ) : EReal) = ∑ k ∈ s, (f k : EReal) := by
  induction s using Finset.induction_on with
  | empty => simp
  | insert a s ha ih => rw [Finset.sum_insert ha, Finset.sum_insert ha, EReal.coe_add, ih]

/-- The pairs: those of each block of rows, and the three between blocks. -/
theorem sum_blocks (f : ℕ → ℝ) : ∑ n ∈ Finset.range 16383, f n
      = (((∑ k ∈ Finset.range 4095, f (4096 * 0 + k)) + ((∑ k ∈ Finset.range 4095, f (4096 * 1 + k)) + f 4095))
        + ((∑ k ∈ Finset.range 4095, f (4096 * 2 + k)) + f 8191))
        + ((∑ k ∈ Finset.range 4095, f (4096 * 3 + k)) + f 12287) := by
  have e0 : ∑ n ∈ Finset.range 4096, f n = ∑ k ∈ Finset.range 4095, f k + f 4095 := Finset.sum_range_succ f 4095
  have e1 : ∑ n ∈ Finset.range 8192, f n = ∑ n ∈ Finset.range 4096, f n + (∑ k ∈ Finset.range 4095, f (4096 + k) + f 8191) := by
    rw [← Finset.sum_range_succ (fun k => f (4096 + k)) 4095]; exact Finset.sum_range_add f 4096 4096
  have e2 : ∑ n ∈ Finset.range 12288, f n = ∑ n ∈ Finset.range 8192, f n + (∑ k ∈ Finset.range 4095, f (8192 + k) + f 12287) := by
    rw [← Finset.sum_range_succ (fun k => f (8192 + k)) 4095]; exact Finset.sum_range_add f 8192 4096
  have e3 : ∑ n ∈ Finset.range 16383, f n = ∑ n ∈ Finset.range 12288, f n + ∑ k ∈ Finset.range 4095, f (12288 + k) :=
    Finset.sum_range_add f 12288 4095
  rw [e3, e2, e1, e0]
  simp only [Nat.mul_zero, zero_add, Nat.mul_one, show 4096 * 2 = 8192 from rfl, show 4096 * 3 = 12288 from rfl]
  ring

/-- Both windings of a column of numbers: they differ by the exact half turns. -/
theorem wind_eq (X Y : ℕ → EReal) (x y : ℕ → ℝ) (hX : ∀ n < 16384, X n = x n) (hY : ∀ n < 16384, Y n = y n)
    (hz : ∀ n < 16383, ¬(y n = 0 ∧ y (n + 1) < 0)) (hz' : ∀ n < 16383, ¬(y n < 0 ∧ y (n + 1) = 0)) :
    ∃ r : ℝ, windRef X Y = r ∧ windOf X Y = ((r + ∑ n ∈ Finset.range 16383, halfAt x y n : ℝ) : EReal) := by
  have hpi := Real.pi_pos
  have hw : ∀ n < 16383, wt X Y n = ((wtR x y n : ℝ) : EReal) := fun n hn =>
    wt_coe (hX n (by omega)) (hX (n + 1) (by omega)) (hY n (by omega)) (hY (n + 1) (by omega))
  have hu : ∀ n < 16383, wrapped X Y n = (((an x y (n + 1) - an x y n) + turns (an x y (n + 1) - an x y n) * (2 * Real.pi) : ℝ) : EReal) :=
    fun n hn => wrapped_coe (hX n (by omega)) (hX (n + 1) (by omega)) (hY n (by omega)) (hY (n + 1) (by omega))
  have hc : ∀ n < 16383, wtR x y n = 4 * (turns (an x y (n + 1) - an x y n) + halfAt x y n) - (sgn (y n) - sgn (y (n + 1))) :=
    fun n hn => by
      have e := count_eq (x n) (y n) (x (n + 1)) (y (n + 1)) (hz n hn) (hz' n hn)
      unfold wtR crR an halfAt; linarith
  have hblk : ∀ b, b + 4095 ≤ 16383 → ∑ k ∈ Finset.range 4095, wt X Y (b + k) = ((∑ k ∈ Finset.range 4095, wtR x y (b + k) : ℝ) : EReal) :=
    fun b hb => by
      rw [coe_sum]; exact Finset.sum_congr rfl fun k hk => hw _ (by have := Finset.mem_range.mp hk; omega)
  have hsplit := sum_blocks (wtR x y)
  have htel : ∀ f : ℕ → ℝ, ∑ n ∈ Finset.range 16383, (f (n + 1) - f n) = f 16383 - f 0 := fun f => Finset.sum_range_sub f 16383
  refine ⟨(∑ n ∈ Finset.range 16383, ((an x y (n + 1) - an x y n) + turns (an x y (n + 1) - an x y n) * (2 * Real.pi))) / (2 * Real.pi), ?_, ?_⟩
  · unfold windRef Ideal.div
    rw [Finset.sum_congr rfl fun n hn => hu n (Finset.mem_range.mp hn), ← coe_sum, word_two, piE_eq, ← EReal.coe_mul,
      if_neg (by rw [EReal.coe_eq_zero]; positivity), ← EReal.coe_inv, ← EReal.coe_mul, div_eq_mul_inv]
  · unfold windOf
    rw [hblk _ (by norm_num), hblk _ (by norm_num), hblk _ (by norm_num), hblk _ (by norm_num), hw _ (by norm_num), hw _ (by norm_num),
      hw _ (by norm_num), hX 0 (by norm_num), hX 16383 (by norm_num), hY 0 (by norm_num), hY 16383 (by norm_num), sg_coe, sg_coe, atan2_coe,
      atan2_coe, word_quarter]
    unfold κ₂
    have hsum : ∑ n ∈ Finset.range 16383, wtR x y n
        = 4 * ∑ n ∈ Finset.range 16383, turns (an x y (n + 1) - an x y n) + 4 * ∑ n ∈ Finset.range 16383, halfAt x y n
          + (sgn (y 16383) - sgn (y 0)) := by
      rw [Finset.sum_congr rfl fun n hn => hc n (Finset.mem_range.mp hn), ← htel fun n => sgn (y n), Finset.mul_sum, Finset.mul_sum,
        ← Finset.sum_add_distrib, ← Finset.sum_add_distrib]
      exact Finset.sum_congr rfl fun n _ => by ring
    have hr : (∑ n ∈ Finset.range 16383, ((an x y (n + 1) - an x y n) + turns (an x y (n + 1) - an x y n) * (2 * Real.pi))) / (2 * Real.pi)
        = (an x y 16383 - an x y 0) / (2 * Real.pi) + ∑ n ∈ Finset.range 16383, turns (an x y (n + 1) - an x y n) := by
      rw [Finset.sum_add_distrib, htel (an x y), ← Finset.sum_mul, add_div, mul_div_assoc, div_self (by positivity), mul_one]
    rw [hr]
    simp only [← EReal.coe_add, ← EReal.coe_sub, ← EReal.coe_mul]
    refine congrArg Real.toEReal ?_
    have e0 : ang (y 0) (x 0) = an x y 0 := rfl
    have e1 : ang (y 16383) (x 16383) = an x y 16383 := rfl
    rw [e0, e1]
    generalize an x y 0 = a0
    generalize an x y 16383 = a1
    generalize sgn (y 0) = s0 at *
    generalize sgn (y 16383) = s1 at *
    rw [hsplit] at hsum
    generalize (∑ k ∈ Finset.range 4095, wtR x y (4096 * 0 + k)) = A0 at *
    generalize (∑ k ∈ Finset.range 4095, wtR x y (4096 * 1 + k)) = A1 at *
    generalize (∑ k ∈ Finset.range 4095, wtR x y (4096 * 2 + k)) = A2 at *
    generalize (∑ k ∈ Finset.range 4095, wtR x y (4096 * 3 + k)) = A3 at *
    generalize wtR x y 4095 = w0 at *
    generalize wtR x y 8191 = w1 at *
    generalize wtR x y 12287 = w2 at *
    have hd : (a1 - a0) / (2 * Real.pi) = (a1 - a0) * (2 * Real.pi⁻¹) / 4 := by field_simp; norm_num
    rw [hd]
    linarith

end Cert.Winding

end
-- ==== Proof.Reference.lean ====
/- The reference's two results at a column: its mean and its winding, tested and gated. -/
module

public import proofs.«01_k».proof.Proof.Finite
public import proofs.«01_k».proof.Proof.Gen.ReferenceIdeal.Run
public import Idealize.ShloMosaic.Lib.Pointwise

@[expose] public section

set_option maxRecDepth 16384

noncomputable section

namespace Cert.Winding

open Idealize.ShloMosaic

/-- The flag of a column: the mean below the one threshold, the winding's size above the other. -/
def flagOf (mean wind : EReal) : BitVec 1 :=
  IntOp.andi (BitVec.ofBool (decide (mean < Ideal.ofBits .f32 0x3DCCCCCD#32)))
    (BitVec.ofBool (decide (Ideal.ofBits .f32 0x3F000000#32 < FloatOps.absf (F := Ideal) (φ := .f32) wind)))

/-- A winding where the flag is up, else zero. -/
def gated (mean wind : EReal) : EReal := Scalar.select (flagOf mean wind) wind 0

/-- Where the mean is not below its threshold the winding does not matter. -/
theorem flagOf_of_not (mean w w' : EReal) (h : mean < Ideal.ofBits .f32 0x3DCCCCCD#32 → w = w') : flagOf mean w = flagOf mean w' := by
  by_cases hm : mean < Ideal.ofBits .f32 0x3DCCCCCD#32
  · rw [h hm]
  · unfold flagOf
    rw [decide_eq_false hm]
    have hz : ∀ b : BitVec 1, IntOp.andi (BitVec.ofBool false) b = 0#1 := by decide
    rw [hz, hz]

theorem gated_of_not (mean w w' : EReal) (h : mean < Ideal.ofBits .f32 0x3DCCCCCD#32 → w = w') : gated mean w = gated mean w' := by
  by_cases hm : mean < Ideal.ofBits .f32 0x3DCCCCCD#32
  · rw [h hm]
  · have hz : ∀ b : BitVec 1, IntOp.andi (BitVec.ofBool false) b = 0#1 := by decide
    unfold gated flagOf
    rw [decide_eq_false hm, hz, hz]
    rfl

end Cert.Winding

namespace Cert.ReferenceIdeal.Column

open Cert.ReferenceIdeal Cert.ReferenceIdeal.Gen Cert.ReferenceIdeal.Value Idealize.ShloMosaic Idealize.ShloMosaic.TcCoe Idealize.SL.Sem
open Cert.Winding

/-- The reference's columns. -/
abbrev re (m : (ℓ : Loc nD τ sig) → Buf (Elt Ideal) ℓ) (c : Dev nD) (q : Fin 1024) : ℕ → EReal := col (m (c.tc.loc main_arg0)) q
abbrev im (m : (ℓ : Loc nD τ sig) → Buf (Elt Ideal) ℓ) (c : Dev nD) (q : Fin 1024) : ℕ → EReal := col (m (c.tc.loc main_arg1)) q

theorem flag_apply (m : (ℓ : Loc nD τ sig) → Buf (Elt Ideal) ℓ) (c : Dev nD) (q : Fin 1024) :
    res_main_v34 m c (ix1 q) = BitVec.setWidth 32 (flagOf (meanRef (re m c q) (im m c q)) (windRef (re m c q) (im m c q))) := by
  have hr : ∀ k : Fin 16384, (m (c.tc.loc main_arg0) (ix2 k q) : EReal) = re m c q k.val := fun k => (col_apply _ q k).symm
  have hi : ∀ k : Fin 16384, (m (c.tc.loc main_arg1) (ix2 k q) : EReal) = im m c q k.val := fun k => (col_apply _ q k).symm
  generalize re m c q = X at *
  generalize im m c q = Y at *
  unfold res_main_v34 flagOf meanRef windRef
  rw [Finset.sum_range, Finset.sum_range]
  pointwise []
  simp only [hr, hi, md, wrapped, step, piE, Nat.add_comm _ 1]
  rfl

theorem wind_apply (m : (ℓ : Loc nD τ sig) → Buf (Elt Ideal) ℓ) (c : Dev nD) (q : Fin 1024) :
    res_main_v33 m c (ix1 q) = gated (meanRef (re m c q) (im m c q)) (windRef (re m c q) (im m c q)) := by
  have hr : ∀ k : Fin 16384, (m (c.tc.loc main_arg0) (ix2 k q) : EReal) = re m c q k.val := fun k => (col_apply _ q k).symm
  have hi : ∀ k : Fin 16384, (m (c.tc.loc main_arg1) (ix2 k q) : EReal) = im m c q k.val := fun k => (col_apply _ q k).symm
  generalize re m c q = X at *
  generalize im m c q = Y at *
  unfold res_main_v33 gated flagOf meanRef windRef
  rw [Finset.sum_range, Finset.sum_range]
  pointwise []
  have hz : (id (constant (F := Ideal) S_ .f32 0#32) ix0 : EReal) = 0 := Ideal.ofBits_zero_f32
  rw [hz]
  simp only [hr, hi, md, wrapped, step, piE, Nat.add_comm _ 1]
  rfl

end Cert.ReferenceIdeal.Column

end
-- ==== Proof.Repair.lean ====
/- The host's repair at a column: what the picked pair adds and takes, and the winding after it, which is the reference's. -/
module

public import proofs.«01_k».proof.Proof.Lookup
public import proofs.«01_k».proof.Proof.Select
public import proofs.«01_k».proof.Proof.Reference

@[expose] public section

set_option maxRecDepth 16384

noncomputable section

namespace Cert.Winding

open Idealize.ShloMosaic

/-- An exact half turn at a pair: the cross product zero, the imaginary part from positive to negative. -/
def HalfTurn (X Y : ℕ → EReal) (n : ℕ) : Prop := cr X Y n = 0 ∧ 0 < Y n ∧ Y (n + 1) < 0

/-- One exact half turn at the most, in the pair that is repaired: the repair gives the reference's winding, and where there is none
    there is nothing to put right. -/
theorem repaired (X Y : ℕ → EReal) (f : ℤ) (hf : IsLast (Near X Y) {n | n < 16383} f)
    (hm : meanRef X Y < Ideal.ofBits .f32 0x3DCCCCCD#32)
    (hz : ∀ n < 16383, ¬(Y n = 0 ∧ Y (n + 1) < 0)) (hz' : ∀ n < 16383, ¬(Y n < 0 ∧ Y (n + 1) = 0))
    (hh : ∀ n < 16383, HalfTurn X Y n → (n : ℤ) = f) :
    windOf X Y + cntHost X Y f.toNat - cntOurs X Y f.toNat = windRef X Y ∧ ((∀ n < 16383, ¬HalfTurn X Y n) → windOf X Y = windRef X Y) := by
  have hfin := finite_of_mean X Y _ hm
  have hX : ∀ n < 16384, X n = ((X n).toReal : ℝ) := fun n hn => by
    obtain ⟨⟨r, e⟩, -⟩ := hfin n hn; rw [e, EReal.toReal_coe]
  have hY : ∀ n < 16384, Y n = ((Y n).toReal : ℝ) := fun n hn => by
    obtain ⟨-, ⟨r, e⟩⟩ := hfin n hn; rw [e, EReal.toReal_coe]
  obtain ⟨x, hX⟩ : ∃ x : ℕ → ℝ, ∀ n < 16384, X n = x n := ⟨_, hX⟩
  obtain ⟨y, hY⟩ : ∃ y : ℕ → ℝ, ∀ n < 16384, Y n = y n := ⟨_, hY⟩
  have rz : ∀ n < 16383, ¬(y n = 0 ∧ y (n + 1) < 0) := fun n hn h => hz n hn (by
    rw [hY n (by omega), hY (n + 1) (by omega), h.1]; exact ⟨rfl, by exact_mod_cast h.2⟩)
  have rz' : ∀ n < 16383, ¬(y n < 0 ∧ y (n + 1) = 0) := fun n hn h => hz' n hn (by
    rw [hY n (by omega), hY (n + 1) (by omega), h.2]; exact ⟨by exact_mod_cast h.1, rfl⟩)
  have ra : ∀ n : ℕ, n < 16383 → ¬HalfTurn X Y n → halfAt x y n = 0 := fun n hn hne => by
    unfold halfAt halfTurn
    refine if_neg fun h => hne ⟨?_, ?_, ?_⟩
    · rw [cr_coe (hX n (by omega)) (hX (n + 1) (by omega)) (hY n (by omega)) (hY (n + 1) (by omega))]
      unfold crR; rw [h.1]; rfl
    · rw [hY n (by omega)]; exact_mod_cast h.2.1
    · rw [hY (n + 1) (by omega)]; exact_mod_cast h.2.2
  have hlt : f < 16383 := by
    rcases hf.mem with e | ⟨n, hn, -, e⟩
    · omega
    · have : n < 16383 := hn
      omega
  have hge := hf.ge
  have hn : f.toNat < 16383 := by omega
  obtain ⟨r, er, ew⟩ := wind_eq X Y x y hX hY rz rz'
  have es : ∑ n ∈ Finset.range 16383, halfAt x y n = halfAt x y f.toNat :=
    Finset.sum_eq_single f.toNat (fun n hr hne => ra n (Finset.mem_range.mp hr) fun h => hne (by have := hh n (Finset.mem_range.mp hr) h; omega))
      (fun h => absurd (Finset.mem_range.mpr hn) h)
  constructor
  · rw [ew, er, es, cntHost_coe (hX f.toNat (by omega)) (hX (f.toNat + 1) (by omega)) (hY f.toNat (by omega)) (hY (f.toNat + 1) (by omega)),
      cntOurs_coe (hX f.toNat (by omega)) (hX (f.toNat + 1) (by omega)) (hY f.toNat (by omega)) (hY (f.toNat + 1) (by omega)) (rz f.toNat hn) (rz' f.toNat hn), ← EReal.coe_add, ← EReal.coe_sub]
    refine congrArg Real.toEReal ?_
    ring
  · intro hnone
    rw [ew, er, es, ra _ hn (hnone _ hn), add_zero]

end Cert.Winding

namespace Cert.KernelIdeal.Vortex

open Idealize.ShloMosaic Idealize.ShloMosaic.TcCoe Idealize.SL.Sem
open Cert.KernelIdeal Cert.KernelIdeal.Gen Cert.Winding

variable (x0 x1 : FVec Ideal S16384x1024 .f32) (wind : FVec Ideal S1024 .f32) (fx : IVec S1024 32)

/-- The full turns the host counts at a pair. -/
theorem turnsOf_apply (X Y : ℕ → EReal) (n : ℕ) (r0 r1 i0 i1 : FVec Ideal S64 .f32) (k : Fin 64) (h0 : (r0 (ix1 k) : EReal) = X n) (h1 : (r1 (ix1 k) : EReal) = X (n + 1))
    (g0 : (i0 (ix1 k) : EReal) = Y n) (g1 : (i1 (ix1 k) : EReal) = Y (n + 1)) : (turnsOf (steps r0 r1 i0 i1) (ix1 k) : EReal) = cntHost X Y n := by
  unfold cntHost step piE
  rw [← h0, ← h1, ← g0, ← g1]
  pointwise [turnsOf, steps, half, nums]

/-- What the kernel's sum had of a pair. -/
theorem had_apply (X Y : ℕ → EReal) (n : ℕ) (r0 r1 i0 i1 : FVec Ideal S64 .f32) (k : Fin 64) (h0 : (r0 (ix1 k) : EReal) = X n) (h1 : (r1 (ix1 k) : EReal) = X (n + 1))
    (g0 : (i0 (ix1 k) : EReal) = Y n) (g1 : (i1 (ix1 k) : EReal) = Y (n + 1)) :
    (had (signs i0) (signs i1) (signs (subf (mulf r0 i1) (mulf i0 r1))) (ix1 k) : EReal) = cntOurs X Y n := by
  unfold cntOurs sg cr
  rw [← h0, ← h1, ← g0, ← g1]
  simp only [had, id_eq]
  pointwise [signs, nums]

/-- What the host writes for a pair at row `n` of column `q`. -/
theorem update_at (rows cols : IVec S64 32) (k : Fin 64) (q : Fin 1024) (n : ℕ) (hn : n < 16383) (hr : rows (ix1 k) = BitVec.ofNat 32 n)
    (hc : cols (ix1 k) = BitVec.ofNat 32 q.val) :
    (updates wind cols
      (turnsOf (steps (pick x0 rows cols) (pick x0 (nextRows rows) cols) (pick x1 rows cols) (pick x1 (nextRows rows) cols)))
      (had (signs (pick x1 rows cols)) (signs (pick x1 (nextRows rows) cols))
        (signs (subf (mulf (pick x0 rows cols) (pick x1 (nextRows rows) cols)) (mulf (pick x1 rows cols) (pick x0 (nextRows rows) cols)))))
      (ix1 k) : EReal)
    = (wind (ix1 q) : EReal) + cntHost (col x0 q) (col x1 q) n - cntOurs (col x0 q) (col x1 q) n := by
  have hr' := nextRows_apply rows k n hr
  have at0 : ∀ x : FVec Ideal S16384x1024 .f32, (pick x rows cols (ix1 k) : EReal) = col x q n := fun x =>
    (pick_apply x rows cols k n q.val (by omega) q.isLt hr hc).trans (col_apply x q ⟨n, by omega⟩).symm
  have at1 : ∀ x : FVec Ideal S16384x1024 .f32, (pick x (nextRows rows) cols (ix1 k) : EReal) = col x q (n + 1) := fun x =>
    (pick_apply x (nextRows rows) cols k (n + 1) q.val (by omega) q.isLt hr' hc).trans (col_apply x q ⟨n + 1, by omega⟩).symm
  rw [updates_apply wind cols _ _ k q.val q.isLt hc]
  exact congrArg₂ (· - ·) (congrArg₂ (· + ·) rfl (turnsOf_apply _ _ _ _ _ _ _ k (at0 x0) (at1 x0) (at0 x1) (at1 x1)))
    (had_apply _ _ _ _ _ _ _ k (at0 x0) (at1 x0) (at0 x1) (at1 x1))

/-- The scatter that sets, at a place that is picked and at one that is not. -/
theorem putAt_hit (cols : IVec S64 32) (upd : FVec Ideal S64 .f32) (σ : Fin 64 → Fin 1024) (hc : ∀ k, cols (ix1 k) = BitVec.ofNat 32 (σ k).val)
    (q : Fin 1024) (v : Ideal .f32) (hv : ∀ k, σ k = q → upd (ix1 k) = v) (k : Fin 64) (hk : σ k = q) : putAt wind cols upd (ix1 q) = v := by
  have hl : ∀ k : Fin 64, scatter_S1024_S64x1_S64_n_0_0_1.resultIdx? (ix1 k) (colIx cols) = some (ix1 q) ↔ σ k = q := fun k =>
    (scatter_place (colIx cols) k (σ k).val (σ k).isLt (colIx_apply _ k _ (by omega) (hc k)) q).trans Fin.ext_iff.symm
  refine Routing.scatter_set_hit scatter_S1024_S64x1_S64_n_0_0_1 wind (colIx cols) upd (ix1 q) v (fun j hj => ?_) (ix1 k) ((hl k).mpr hk)
  obtain ⟨k', rfl⟩ : ∃ k : Fin 64, j = ix1 k := ⟨j 0, funext fun a => by match a with | ⟨0, _⟩ => rfl⟩
  exact hv k' ((hl k').mp hj)

theorem putAt_miss (cols : IVec S64 32) (upd : FVec Ideal S64 .f32) (σ : Fin 64 → Fin 1024) (hc : ∀ k, cols (ix1 k) = BitVec.ofNat 32 (σ k).val)
    (q : Fin 1024) (h : ∀ k, σ k ≠ q) : putAt wind cols upd (ix1 q) = wind (ix1 q) := by
  have hl : ∀ k : Fin 64, scatter_S1024_S64x1_S64_n_0_0_1.resultIdx? (ix1 k) (colIx cols) = some (ix1 q) ↔ σ k = q := fun k =>
    (scatter_place (colIx cols) k (σ k).val (σ k).isLt (colIx_apply _ k _ (by omega) (hc k)) q).trans Fin.ext_iff.symm
  refine Routing.scatter_set_miss scatter_S1024_S64x1_S64_n_0_0_1 wind (colIx cols) upd (ix1 q) fun j hj => ?_
  obtain ⟨k', rfl⟩ : ∃ k : Fin 64, j = ix1 k := ⟨j 0, funext fun a => by match a with | ⟨0, _⟩ => rfl⟩
  exact h k' ((hl k').mp hj)

/-- The column at the place `k` of the picked ones. -/
def place (k : Fin 64) : Fin 1024 :=
  sortedFrom (fun a b : Fin 1024 => IntOp.cmpi .sgt (fx (ix1 a)) (fx (ix1 b)) == 1#1) ⟨k.val, by omega⟩

theorem topRows_apply (k : Fin 64) : topRows fx (ix1 k) = fx (ix1 (place fx k)) := (topK_apply fx sliceFits_S1024_S64 k (by omega)).1
theorem topCols_apply (k : Fin 64) : topCols fx (ix1 k) = BitVec.ofNat 32 (place fx k).val := (topK_apply fx sliceFits_S1024_S64 k (by omega)).2

variable (hfx : ∀ q : Fin 1024, IsLast (Near (col x0 q) (col x1 q)) {n | n < 16383} (fx (ix1 q)).toInt)
include hfx

theorem row_bounds (q : Fin 1024) : -1 ≤ (fx (ix1 q)).toInt ∧ (fx (ix1 q)).toInt < 16383 := by
  refine ⟨(hfx q).ge, ?_⟩
  rcases (hfx q).mem with e | ⟨n, hn, -, e⟩
  · omega
  · have : n < 16383 := hn
    omega

/-- What the host writes for a picked column. -/
theorem update_column (k : Fin 64) :
    (updates wind (topCols fx)
      (turnsOf (steps (pick x0 (pairRows fx) (topCols fx)) (pick x0 (nextRows (pairRows fx)) (topCols fx))
        (pick x1 (pairRows fx) (topCols fx)) (pick x1 (nextRows (pairRows fx)) (topCols fx))))
      (had (signs (pick x1 (pairRows fx) (topCols fx))) (signs (pick x1 (nextRows (pairRows fx)) (topCols fx)))
        (signs (subf (mulf (pick x0 (pairRows fx) (topCols fx)) (pick x1 (nextRows (pairRows fx)) (topCols fx)))
          (mulf (pick x1 (pairRows fx) (topCols fx)) (pick x0 (nextRows (pairRows fx)) (topCols fx)))))) (ix1 k) : EReal)
    = (wind (ix1 (place fx k)) : EReal) + cntHost (col x0 (place fx k)) (col x1 (place fx k)) (fx (ix1 (place fx k))).toInt.toNat
      - cntOurs (col x0 (place fx k)) (col x1 (place fx k)) (fx (ix1 (place fx k))).toInt.toNat := by
  obtain ⟨b0, b1⟩ := row_bounds x0 x1 fx hfx (place fx k)
  have hc := topCols_apply fx k
  have hr : pairRows fx (ix1 k) = BitVec.ofNat 32 (fx (ix1 (place fx k))).toInt.toNat := by
    rw [← topRows_apply fx k] at b0 b1 ⊢
    exact clampRows_apply (topRows fx) k b0 b1
  exact update_at x0 x1 wind (pairRows fx) (topCols fx) k (place fx k) _ (by omega) hr hc

/-- The repaired winding of a column is the reference's, where the mean is below its threshold. -/
theorem fixed_column (q : Fin 1024) (hw : ∀ q : Fin 1024, (wind (ix1 q) : EReal) = windOf (col x0 q) (col x1 q))
    (hz : ∀ n < 16383, ¬(col x1 q n = 0 ∧ col x1 q (n + 1) < 0)) (hz' : ∀ n < 16383, ¬(col x1 q n < 0 ∧ col x1 q (n + 1) = 0))
    (hh : ∀ n : ℕ, n < 16383 → HalfTurn (col x0 q) (col x1 q) n →
      (n : ℤ) = (fx (ix1 q)).toInt ∧ (Finset.univ.filter fun l : Fin 1024 => (fx (ix1 q)).toInt ≤ (fx (ix1 l)).toInt).card ≤ 64)
    (hm : meanRef (col x0 q) (col x1 q) < Ideal.ofBits .f32 0x3DCCCCCD#32) :
    (fixed wind fx x0 x1 (ix1 q) : EReal) = windRef (col x0 q) (col x1 q) := by
  obtain ⟨e, e'⟩ := repaired (col x0 q) (col x1 q) _ (hfx q) hm hz hz' fun n hn h => (hh n hn h).1
  unfold fixed corrected
  by_cases hp : ∃ k : Fin 64, place fx k = q
  · obtain ⟨k, hk⟩ := hp
    refine putAt_hit wind (topCols fx) _ (place fx) (topCols_apply fx) q (windRef (col x0 q) (col x1 q)) (fun k' hk' => ?_) k hk
    refine (update_column x0 x1 wind fx hfx k').trans ?_
    rw [hk', hw q]
    exact e
  · rw [putAt_miss wind (topCols fx) _ (place fx) (topCols_apply fx) q fun k hk => hp ⟨k, hk⟩]
    refine (hw q).trans (e' ?_)
    intro n hn hturn
    obtain ⟨-, hcard⟩ := hh n hn hturn
    obtain ⟨hb, hs⟩ := sorted_desc fun a : Fin 1024 => fx (ix1 a)
    obtain ⟨k, hk, hkq⟩ := taken_of_card (fun a : Fin 1024 => fx (ix1 a)) _ hb hs q hcard
    exact hp ⟨⟨k.val, hk⟩, hkq⟩

omit hfx
/-- The flag and the gated winding at a column. -/
theorem flags_apply (mean w : FVec Ideal S1024 .f32) (q : Fin 1024) : flags mean w (ix1 q) = flagOf (mean (ix1 q)) (w (ix1 q)) := by
  unfold flagOf
  pointwise [flags]

theorem gate_apply (mean w : FVec Ideal S1024 .f32) (q : Fin 1024) : (gate mean w (ix1 q) : EReal) = gated (mean (ix1 q)) (w (ix1 q)) := by
  unfold gated
  rw [← flags_apply]
  simp only [gate, id_eq]
  pointwise []

theorem flat_apply {α : Type} (x : S1x1024.Idx → α) (q : Fin 1024) : shapeCast S1024 x shapeCasts_S1x1024_S1024 (ix1 q) = x (ix2 0 q) := by
  pointwise []

end Cert.KernelIdeal.Vortex

end
-- ==== Proof.Arrays.lean ====
/- What the three result arrays hold when the region is done, and what each point's input blocks are: entries of the
   arguments. -/
module

public import proofs.«01_k».proof.Proof.Region
public import Idealize.ShloMosaic.Lib.Pipeline.Value
public import Idealize.ShloMosaic.Lib.Pointwise

@[expose] public section

set_option maxRecDepth 16384

noncomputable section

namespace Cert.KernelIdeal.Vortex

open Idealize.ShloMosaic Idealize.ShloMosaic.TcCoe Idealize.SL.Sem
open Idealize.ShloMosaic.Pipeline (Dat Cfg Window)
open Cert.KernelIdeal.Gen

variable {F : FTy → Type} [FloatOps F] [Named F]
variable (m : (ℓ : Loc nD τ sig) → Buf (Elt F) ℓ)

/-- A `1 x 1024` array from one `1 x 128` row per column tile: each tile's row after its last point. -/
def tiles {α : Type} (f : (n : ℕ) → n < cfg0.N → S1x128.Idx → α) : S1x1024.Idx → α := fun i =>
  f (4 * ((i 1).val / 128) + 3) (by have h : (i 1).val < 1024 := (i 1).isLt; rw [show cfg0.N = 32 from N_0]; omega)
    (ix2 0 ⟨(i 1).val % 128, Nat.mod_lt _ (by decide)⟩)

theorem tile_2 : ∀ t : Fin cfg0.N, win0_2.index t 0 = 0 ∧ win0_2.index t 1 = t.val / 4 := by decide +kernel
theorem tile_3 : ∀ t : Fin cfg0.N, win0_3.index t 0 = 0 ∧ win0_3.index t 1 = t.val / 4 := by decide +kernel
theorem tile_4 : ∀ t : Fin cfg0.N, win0_4.index t 0 = 0 ∧ win0_4.index t 1 = t.val / 4 := by decide +kernel
theorem tile_0 : ∀ t : Fin cfg0.N, win0_0.index t 0 = t.val % 4 ∧ win0_0.index t 1 = t.val / 4 := by decide +kernel
theorem tile_1 : ∀ t : Fin cfg0.N, win0_1.index t 0 = t.val % 4 ∧ win0_1.index t 1 = t.val / 4 := by decide +kernel

/-- Reading `tiles` inside the tile of a last point. -/
theorem tiles_at {α : Type} (f : (n : ℕ) → n < cfg0.N → S1x128.Idx → α) (t : Fin cfg0.N) (h3 : t.val % 4 = 3) (j : S1x128.Idx)
    (i : S1x1024.Idx) (hi : (i 1).val = t.val / 4 * 128 + (j 1).val) : tiles f i = f t.val t.isLt j := by
  have hj : (j 1).val < 128 := (j 1).isLt
  have hj0 : (j 0).val < 1 := (j 0).isLt
  unfold tiles
  have e1 : 4 * ((i 1).val / 128) + 3 = t.val := by rw [hi]; omega
  have e2 : (ix2 0 ⟨(i 1).val % 128, Nat.mod_lt _ (by decide)⟩ : S1x128.Idx) = j := by
    funext a
    match a with
    | ⟨0, _⟩ => exact Fin.ext (by show 0 = (j 0).val; omega)
    | ⟨1, _⟩ => exact Fin.ext (by show (i 1).val % 128 = (j 1).val; rw [hi]; omega)
  rw [e2]
  congr 1

theorem lastPoint (i : S1x1024.Idx) : 4 * ((i 1).val / 128) + 3 < cfg0.N := by
  have h : (i 1).val < 1024 := (i 1).isLt
  rw [show cfg0.N = 32 from N_0]; omega

/-- A window of one row whose block at point `t` is tile `t / 4`, written back after each tile's last point. -/
theorem flushed_2 (c : Dev nD) (t : Fin cfg0.N) (hf : (cfg0.win 2).flush t = true) :
    (dats m 0 c).flushed 2 t = ((cfg0.win 2).blk t).view.read (Elt F) (tiles (meanAt m c)) := by
  have h3 := (flush0_2 t).mp hf
  show (cfg0.win 2).cut (grid0.coords t) ((dats m 0 c).after 2 t) = _
  rw [after_2]
  funext j
  rw [View.read_apply]
  refine (tiles_at (meanAt m c) t h3 j _ ?_).symm
  show win0_2.index t 1 * 128 + 1 * (j 1).val = _
  rw [(tile_2 t).2]; omega

theorem final_2 (c : Dev nD) : (dats m 0 c).arrAt 2 cfg0.N = tiles (meanAt m c) :=
  (dats m 0 c).arrAt_eq_of_cover 2 (tiles (meanAt m c)) (flushed_2 m c) fun i =>
    ⟨⟨4 * ((i 1).val / 128) + 3, lastPoint i⟩, (flush0_2 _).mpr (by show (4 * ((i 1).val / 128) + 3) % 4 = 3; omega), by
      show (i : main_call0_v0_0.ty.Idx) ∈ ((View.whole main_call0_v0_0).slice (win0_2.rect ⟨4 * ((i 1).val / 128) + 3, lastPoint i⟩)).set
      rw [View.set_slice_whole, Rect.mem_set_unit]
      intro a
      have h0 : (i 0 : Nat) < 1 := (i 0).isLt
      have h1 : (i 1 : Nat) < 1024 := (i 1).isLt
      match a with
      | ⟨0, _⟩ =>
        show win0_2.index _ 0 * 1 ≤ (i 0 : Nat) ∧ (i 0 : Nat) < win0_2.index _ 0 * 1 + 1
        rw [(tile_2 _).1]; omega
      | ⟨1, _⟩ =>
        show win0_2.index _ 1 * 128 ≤ (i 1 : Nat) ∧ (i 1 : Nat) < win0_2.index _ 1 * 128 + 128
        rw [(tile_2 _).2]; show (4 * ((i 1).val / 128) + 3) / 4 * 128 ≤ _ ∧ _ < (4 * ((i 1).val / 128) + 3) / 4 * 128 + 128; omega⟩

theorem flushed_3 (c : Dev nD) (t : Fin cfg0.N) (hf : (cfg0.win 3).flush t = true) :
    (dats m 0 c).flushed 3 t = ((cfg0.win 3).blk t).view.read (Elt F) (tiles (windAt m c)) := by
  have h3 := (flush0_3 t).mp hf
  show (cfg0.win 3).cut (grid0.coords t) ((dats m 0 c).after 3 t) = _
  rw [after_3]
  funext j
  rw [View.read_apply]
  refine (tiles_at (windAt m c) t h3 j _ ?_).symm
  show win0_3.index t 1 * 128 + 1 * (j 1).val = _
  rw [(tile_3 t).2]; omega

theorem final_3 (c : Dev nD) : (dats m 0 c).arrAt 3 cfg0.N = tiles (windAt m c) :=
  (dats m 0 c).arrAt_eq_of_cover 3 (tiles (windAt m c)) (flushed_3 m c) fun i =>
    ⟨⟨4 * ((i 1).val / 128) + 3, lastPoint i⟩, (flush0_3 _).mpr (by show (4 * ((i 1).val / 128) + 3) % 4 = 3; omega), by
      show (i : main_call0_v0_1.ty.Idx) ∈ ((View.whole main_call0_v0_1).slice (win0_3.rect ⟨4 * ((i 1).val / 128) + 3, lastPoint i⟩)).set
      rw [View.set_slice_whole, Rect.mem_set_unit]
      intro a
      have h0 : (i 0 : Nat) < 1 := (i 0).isLt
      have h1 : (i 1 : Nat) < 1024 := (i 1).isLt
      match a with
      | ⟨0, _⟩ =>
        show win0_3.index _ 0 * 1 ≤ (i 0 : Nat) ∧ (i 0 : Nat) < win0_3.index _ 0 * 1 + 1
        rw [(tile_3 _).1]; omega
      | ⟨1, _⟩ =>
        show win0_3.index _ 1 * 128 ≤ (i 1 : Nat) ∧ (i 1 : Nat) < win0_3.index _ 1 * 128 + 128
        rw [(tile_3 _).2]; show (4 * ((i 1).val / 128) + 3) / 4 * 128 ≤ _ ∧ _ < (4 * ((i 1).val / 128) + 3) / 4 * 128 + 128; omega⟩

theorem flushed_4 (c : Dev nD) (t : Fin cfg0.N) (hf : (cfg0.win 4).flush t = true) :
    (dats m 0 c).flushed 4 t = ((cfg0.win 4).blk t).view.read (Elt F) (tiles (fixAt m c)) := by
  have h3 := (flush0_4 t).mp hf
  show (cfg0.win 4).cut (grid0.coords t) ((dats m 0 c).after 4 t) = _
  rw [after_4]
  funext j
  rw [View.read_apply]
  refine (tiles_at (fixAt m c) t h3 j _ ?_).symm
  show win0_4.index t 1 * 128 + 1 * (j 1).val = _
  rw [(tile_4 t).2]; omega

theorem final_4 (c : Dev nD) : (dats m 0 c).arrAt 4 cfg0.N = tiles (fixAt m c) :=
  (dats m 0 c).arrAt_eq_of_cover 4 (tiles (fixAt m c)) (flushed_4 m c) fun i =>
    ⟨⟨4 * ((i 1).val / 128) + 3, lastPoint i⟩, (flush0_4 _).mpr (by show (4 * ((i 1).val / 128) + 3) % 4 = 3; omega), by
      show (i : main_call0_v0_2.ty.Idx) ∈ ((View.whole main_call0_v0_2).slice (win0_4.rect ⟨4 * ((i 1).val / 128) + 3, lastPoint i⟩)).set
      rw [View.set_slice_whole, Rect.mem_set_unit]
      intro a
      have h0 : (i 0 : Nat) < 1 := (i 0).isLt
      have h1 : (i 1 : Nat) < 1024 := (i 1).isLt
      match a with
      | ⟨0, _⟩ =>
        show win0_4.index _ 0 * 1 ≤ (i 0 : Nat) ∧ (i 0 : Nat) < win0_4.index _ 0 * 1 + 1
        rw [(tile_4 _).1]; omega
      | ⟨1, _⟩ =>
        show win0_4.index _ 1 * 128 ≤ (i 1 : Nat) ∧ (i 1 : Nat) < win0_4.index _ 1 * 128 + 128
        rw [(tile_4 _).2]; show (4 * ((i 1).val / 128) + 3) / 4 * 128 ≤ _ ∧ _ < (4 * ((i 1).val / 128) + 3) / 4 * 128 + 128; omega⟩

/-- Input 0's block at a point of row block `j` and column tile `q / 128`, at the lane of column `q`. -/
theorem block_0 (c : Dev nD) (q : Fin 1024) (j : ℕ) (hj : j < 4) (h : 4 * (q.val / 128) + j < cfg0.N) (k : Fin 4096) :
    (iblk m c 0 ⟨4 * (q.val / 128) + j, h⟩ : Vec F S4096x128 .f32) (ix2 k ⟨q.val % 128, Nat.mod_lt _ (by decide)⟩)
      = m ((c : Thread nD τ).loc main_arg0) (ix2 ⟨4096 * j + k.val, by have := k.isLt; omega⟩ q) := by
  unfold iblk
  rw [View.read_apply]
  show V m c main_arg0 _ = m (c.tc.loc main_arg0) _
  unfold V
  have hi := tile_0 ⟨4 * (q.val / 128) + j, h⟩
  have e0 : (4 * (q.val / 128) + j) % 4 = j := by omega
  have e1 : (4 * (q.val / 128) + j) / 4 = q.val / 128 := by omega
  congr 1
  funext a
  apply Fin.ext
  match a with
  | ⟨0, _⟩ =>
    show win0_0.index ⟨4 * (q.val / 128) + j, h⟩ 0 * 4096 + 1 * k.val = 4096 * j + k.val
    rw [hi.1, e0]; omega
  | ⟨1, _⟩ =>
    show win0_0.index ⟨4 * (q.val / 128) + j, h⟩ 1 * 128 + 1 * (q.val % 128) = q.val
    rw [hi.2, e1]; omega

/-- Input 1's block at a point of row block `j` and column tile `q / 128`, at the lane of column `q`. -/
theorem block_1 (c : Dev nD) (q : Fin 1024) (j : ℕ) (hj : j < 4) (h : 4 * (q.val / 128) + j < cfg0.N) (k : Fin 4096) :
    (iblk m c 1 ⟨4 * (q.val / 128) + j, h⟩ : Vec F S4096x128 .f32) (ix2 k ⟨q.val % 128, Nat.mod_lt _ (by decide)⟩)
      = m ((c : Thread nD τ).loc main_arg1) (ix2 ⟨4096 * j + k.val, by have := k.isLt; omega⟩ q) := by
  unfold iblk
  rw [View.read_apply]
  show V m c main_arg1 _ = m (c.tc.loc main_arg1) _
  unfold V
  have hi := tile_1 ⟨4 * (q.val / 128) + j, h⟩
  have e0 : (4 * (q.val / 128) + j) % 4 = j := by omega
  have e1 : (4 * (q.val / 128) + j) / 4 = q.val / 128 := by omega
  congr 1
  funext a
  apply Fin.ext
  match a with
  | ⟨0, _⟩ =>
    show win0_1.index ⟨4 * (q.val / 128) + j, h⟩ 0 * 4096 + 1 * k.val = 4096 * j + k.val
    rw [hi.1, e0]; omega
  | ⟨1, _⟩ =>
    show win0_1.index ⟨4 * (q.val / 128) + j, h⟩ 1 * 128 + 1 * (q.val % 128) = q.val
    rw [hi.2, e1]; omega

/-- The row a block starts at, as the program's word. -/
theorem base_word : ∀ t : Fin cfg0.N, baseWord (grid0.coords t) = BitVec.ofNat 32 (4096 * (t.val % 4)) := by decide +kernel

end Cert.KernelIdeal.Vortex

end
-- ==== Proof.Payload.lean ====
/- The kernel's payloads read at one lane, as functions of the column under that lane; then the three result arrays at a
   column. -/
module

public import proofs.«01_k».proof.Proof.Arrays
public import proofs.«01_k».proof.Proof.Column

@[expose] public section

set_option maxRecDepth 16384

noncomputable section

namespace Cert.KernelIdeal.Vortex

open Idealize.ShloMosaic Idealize.ShloMosaic.TcCoe Idealize.SL.Sem
open Cert.KernelIdeal.Gen Cert.Winding

/-- Lane `l` of a block holds rows `b, b + 1, …` of a column. -/
def Rows (x : Vec Ideal S4096x128 .f32) (l : Fin 128) (b : ℕ) (X : ℕ → EReal) : Prop :=
  ∀ (k : ℕ) (h : k < 4096), x (ix2 ⟨k, h⟩ l) = X (b + k)

variable {x0 x1 : Vec Ideal S4096x128 .f32} {l : Fin 128} {b : ℕ} {X Y : ℕ → EReal}

theorem pay18_lane (h0 : Rows x0 l b X) (h1 : Rows x1 l b Y) :
    k0_pay18 x0 x1 (ix1 l) = (∑ k ∈ Finset.range 4096, md X Y (b + k)) * Ideal.ofBits .f32 0x38800000#32 := by
  rw [Finset.sum_range]
  pointwise [k0_pay18]
  congr 1
  refine Finset.sum_congr rfl fun k _ => ?_
  unfold md
  rw [← h0 k.val k.isLt, ← h1 k.val k.isLt]

theorem pay23_lane (h0 : Rows x0 l b X) (h1 : Rows x1 l b Y) :
    k0_pay23 x0 x1 (ix1 l) = ∑ k ∈ Finset.range 4095, wt X Y (b + k) := by
  rw [Finset.sum_range]
  pointwise [k0_pay23, k0_pay22, k0_pay21, k0_pay20, k0_pay19]
  refine Finset.sum_congr rfl fun k _ => ?_
  rw [h0 k.val (by omega), h1 k.val (by omega), h0 (1 + k.val) (by omega), h1 (1 + k.val) (by omega),
    show b + (1 + k.val) = b + k.val + 1 by omega]
  rfl

theorem toInt_small (n : ℕ) (h : n < 2 ^ 31) : (BitVec.ofNat 32 n).toInt = n := by
  rw [BitVec.toInt_ofNat']
  exact Int.bmod_eq_of_le (by norm_num <;> omega) (by norm_num <;> omega)

theorem pay24_lane (h0 : Rows x0 l b X) (h1 : Rows x1 l b Y) :
    IsLast (fun n => Near X Y (b + n)) {n | n < 4095} (k0_pay24 x0 x1 (ix1 l)).toInt := by
  classical
  have e : k0_pay24 x0 x1 (ix1 l)
      = Finset.fold IntOp.maxsi 0x80000000#32 (fun k : Fin 4095 => if Near X Y (b + k.val) then BitVec.ofNat 32 k.val else 4294967295#32)
          Finset.univ := by
    pointwise [k0_pay24, k0_pay22, k0_pay21, k0_pay20, k0_pay19]
    congr 1
    funext k
    rw [h0 k.val (by omega), h1 k.val (by omega), h0 (1 + k.val) (by omega), h1 (1 + k.val) (by omega),
      show b + (1 + k.val) = b + k.val + 1 by omega]
    exact if_congr (near_iff X Y (b + k.val)) rfl rfl
  rw [e]
  refine isLast_fold _ (by decide) _ (fun k hk => ?_) (fun k hk => ?_)
  · rw [if_pos hk]; exact toInt_small _ (by omega)
  · rw [if_neg hk]; decide

theorem pay2_lane (v : FVec Ideal S128 .f32) (l : Fin 128) : k0_pay2 v (ix2 0 l) = v (ix1 l) := by pointwise [k0_pay2]

theorem pay15_lane (v : FVec Ideal S128 .f32) (acc : Vec Ideal S1x128 .f32) (l : Fin 128) :
    k0_pay15 v acc (ix2 0 l) = (acc (ix2 0 l) + v (ix1 l) : EReal) := by pointwise [k0_pay15]

theorem named_two_over_pi : (Named.named κ "two_over_pi" 0x3F22F983#32 : Ideal .f32) = κ₂ := rfl

theorem pay3_lane (h0 : Rows x0 l b X) (h1 : Rows x1 l b Y) (v : FVec Ideal S128 .f32) :
    k0_pay3 x0 x1 v (ix2 0 l) = (v (ix1 l) + sg (Y b) - Ideal.atan2 (Y b) (X b) * κ₂ : EReal) := by
  pointwise [k0_pay3]
  rw [show (x0 (ix2 0 l) : EReal) = X b from h0 0 (by decide), show (x1 (ix2 0 l) : EReal) = Y b from h1 0 (by decide), named_two_over_pi]
  rfl

theorem pay7_lane (h0 : Rows x0 l b X) (h1 : Rows x1 l b Y) (v : Vec Ideal S1x128 .f32) :
    k0_pay7 x0 x1 v (ix2 0 l)
      = ((v (ix2 0 l) - sg (Y (b + 4095)) + Ideal.atan2 (Y (b + 4095)) (X (b + 4095)) * κ₂) * Ideal.ofBits .f32 0x3E800000#32 : EReal) := by
  pointwise [k0_pay7]
  rw [show (x0 (ix2 4095 l) : EReal) = X (b + 4095) from h0 4095 (by decide),
    show (x1 (ix2 4095 l) : EReal) = Y (b + 4095) from h1 4095 (by decide), named_two_over_pi]
  rfl

theorem windAdd_lane {y0 y1 : Vec Ideal S4096x128 .f32} {a : ℕ} (hb : b = a + 4096) (h0 : Rows x0 l b X) (h1 : Rows x1 l b Y)
    (g0 : Rows y0 l a X) (g1 : Rows y1 l a Y) (acc : Vec Ideal S1x128 .f32) :
    windAdd x0 x1 (k0_pay8 y0) (k0_pay9 y1) acc (ix2 0 l)
      = (acc (ix2 0 l) + ((∑ k ∈ Finset.range 4095, wt X Y (b + k)) + wt X Y (a + 4095)) : EReal) := by
  rw [← pay23_lane h0 h1]
  pointwise [windAdd, k0_pay5, k0_pay16, k0_pay17, k0_pay13, k0_pay12, k0_pay11, k0_pay10, k0_pay9, k0_pay8]
  rw [show (x0 (ix2 0 l) : EReal) = X (a + 4095 + 1) by rw [← show b = a + 4095 + 1 by omega]; exact h0 0 (by decide),
    show (x1 (ix2 0 l) : EReal) = Y (a + 4095 + 1) by rw [← show b = a + 4095 + 1 by omega]; exact h1 0 (by decide),
    show (y0 (ix2 4095 l) : EReal) = X (a + 4095) from g0 4095 (by decide),
    show (y1 (ix2 4095 l) : EReal) = Y (a + 4095) from g1 4095 (by decide)]
  rfl

/-- The last near row of a block, at the block's base: the word the kernel makes of it. -/
theorem pay1_last (v : IVec S128 32) (l : Fin 128) (P : ℕ → Prop) (b : ℕ) (hb : b < 2 ^ 20)
    (h : IsLast (fun n => P (b + n)) {n | n < 4095} (v (ix1 l)).toInt) :
    IsLast P {n | b ≤ n ∧ n < b + 4095}
      (Scalar.select (IntOp.cmpi .sge (v (ix1 l)) 0#32) (IntOp.addi (v (ix1 l)) (BitVec.ofNat 32 b)) 4294967295#32).toInt := by
  have hs := h.shift (P := P) b
  have hv : (v (ix1 l)).toInt < 4095 := by
    rcases h.mem with e | ⟨n, hn, -, e⟩
    · omega
    · have : n < 4095 := hn; omega
  have hg := h.ge
  generalize v (ix1 l) = w at *
  have e : (Scalar.select (IntOp.cmpi .sge w 0#32) (IntOp.addi w (BitVec.ofNat 32 b)) 4294967295#32).toInt
      = if 0 ≤ w.toInt then w.toInt + b else -1 := by
    have hc : IntOp.cmpi .sge w 0#32 = BitVec.ofBool (decide (0 ≤ w.toInt)) := rfl
    rw [hc]
    by_cases h0 : 0 ≤ w.toInt
    · rw [decide_eq_true h0, if_pos h0]
      show (w + BitVec.ofNat 32 b).toInt = _
      rw [BitVec.toInt_add, toInt_small b (by omega)]
      exact Int.bmod_eq_of_le (by norm_num <;> omega) (by norm_num <;> omega)
    · rw [decide_eq_false h0, if_neg h0]; rfl
  rw [e]; exact hs

theorem pay4_lane (v : IVec S128 32) (w : BitVec 32) (l : Fin 128) : k0_pay4 v w k0_pay25 (ix2 0 l)
    = Scalar.select (IntOp.cmpi .sge (v (ix1 l)) 0#32) (IntOp.addi (v (ix1 l)) w) 4294967295#32 := by
  pointwise [k0_pay4, k0_pay1, k0_pay25]

open Classical in
theorem pay6_lane {y0 y1 : Vec Ideal S4096x128 .f32} {a : ℕ} (hb : b = a + 4096) (h0 : Rows x0 l b X) (h1 : Rows x1 l b Y)
    (g0 : Rows y0 l a X) (g1 : Rows y1 l a Y) (v : IVec S128 32) (w : BitVec 32) (acc : Vec Ideal S1x128 .i32) :
    k0_pay6 v w k0_pay25 (k0_pay14 x0 x1 w (k0_pay8 y0) (k0_pay9 y1)) acc (ix2 0 l)
      = IntOp.maxsi (acc (ix2 0 l)) (IntOp.maxsi
          (Scalar.select (IntOp.cmpi .sge (v (ix1 l)) 0#32) (IntOp.addi (v (ix1 l)) w) 4294967295#32)
          (if Near X Y (a + 4095) then Scalar.subi w 1#32 else 4294967295#32)) := by
  pointwise [k0_pay6, k0_pay25, k0_pay1, k0_pay14, k0_pay13, k0_pay12, k0_pay11, k0_pay10, k0_pay9, k0_pay8]
  rw [show (x0 (ix2 0 l) : EReal) = X (a + 4095 + 1) by rw [← show b = a + 4095 + 1 by omega]; exact h0 0 (by decide),
    show (x1 (ix2 0 l) : EReal) = Y (a + 4095 + 1) by rw [← show b = a + 4095 + 1 by omega]; exact h1 0 (by decide),
    show (y0 (ix2 4095 l) : EReal) = X (a + 4095) from g0 4095 (by decide),
    show (y1 (ix2 4095 l) : EReal) = Y (a + 4095) from g1 4095 (by decide)]
  congr 2
  exact if_congr (near_iff X Y (a + 4095)) rfl rfl

/-! ## The three arrays at a column -/

section
variable (m : (ℓ : Loc nD τ sig) → Buf (Elt Ideal) ℓ) (c : Dev nD) (q : Fin 1024)

/-- The column under lane `q`: the real and the imaginary parts. -/
abbrev re : ℕ → EReal := col (m ((c : Thread nD τ).loc main_arg0)) q
abbrev im : ℕ → EReal := col (m ((c : Thread nD τ).loc main_arg1)) q

abbrev lane : Fin 128 := ⟨q.val % 128, Nat.mod_lt _ (by decide)⟩

theorem point_lt {j : ℕ} (hj : j < 4) : 4 * (q.val / 128) + j < cfg0.N := by
  have := q.isLt; rw [show cfg0.N = 32 from N_0]; omega

theorem rows_0 {j : ℕ} (hj : j < 4) (h : 4 * (q.val / 128) + j < cfg0.N) :
    Rows (iblk m c 0 ⟨4 * (q.val / 128) + j, h⟩) (lane q) (4096 * j) (re m c q) := fun k hk => by
  exact (block_0 m c q j hj h ⟨k, hk⟩).trans (col_of_lt _ _ _)
theorem rows_1 {j : ℕ} (hj : j < 4) (h : 4 * (q.val / 128) + j < cfg0.N) :
    Rows (iblk m c 1 ⟨4 * (q.val / 128) + j, h⟩) (lane q) (4096 * j) (im m c q) := fun k hk => by
  exact (block_1 m c q j hj h ⟨k, hk⟩).trans (col_of_lt _ _ _)

theorem mean_first (h : 4 * (q.val / 128) + 0 < cfg0.N) : meanAt m c (4 * (q.val / 128) + 0) h (ix2 0 (lane q))
    = ((∑ k ∈ Finset.range 4096, md (re m c q) (im m c q) (4096 * 0 + k)) * Ideal.ofBits .f32 0x38800000#32 : EReal) := by
  rw [meanAt_first m c ⟨_, h⟩ (by show (4 * (q.val / 128) + 0) % 4 = 0; omega), pay2_lane]
  exact pay18_lane (rows_0 m c q (by decide) h) (rows_1 m c q (by decide) h)

theorem mean_next {j : ℕ} (hj : j + 1 < 4) (h : 4 * (q.val / 128) + (j + 1) < cfg0.N) :
    meanAt m c (4 * (q.val / 128) + (j + 1)) h (ix2 0 (lane q))
    = (meanAt m c (4 * (q.val / 128) + j) (Nat.lt_of_succ_lt h) (ix2 0 (lane q))
      + (∑ k ∈ Finset.range 4096, md (re m c q) (im m c q) (4096 * (j + 1) + k)) * Ideal.ofBits .f32 0x38800000#32 : EReal) := by
  have e : meanAt m c (4 * (q.val / 128) + (j + 1)) h
      = k0_pay15 (k0_pay18 (iblk m c 0 ⟨4 * (q.val / 128) + (j + 1), h⟩) (iblk m c 1 ⟨4 * (q.val / 128) + (j + 1), h⟩))
          (meanAt m c (4 * (q.val / 128) + j) (Nat.lt_of_succ_lt h)) :=
    if_neg (show ¬(4 * (q.val / 128) + (j + 1)) % 4 = 0 by omega)
  rw [e, pay15_lane]
  congr 1
  exact pay18_lane (rows_0 m c q hj h) (rows_1 m c q hj h)

theorem mean_column : (tiles (meanAt m c) (ix2 0 q) : EReal) = meanOf (re m c q) (im m c q) := by
  have h : 4 * (q.val / 128) + (2 + 1) < cfg0.N := point_lt q (by decide)
  refine (show (tiles (meanAt m c) (ix2 0 q) : EReal) = meanAt m c (4 * (q.val / 128) + (2 + 1)) h (ix2 0 (lane q)) from rfl).trans ?_
  rw [mean_next m c q (by decide), mean_next m c q (by decide) (j := 1), mean_next m c q (by decide) (j := 0), mean_first]
  rfl

theorem wind_first (h : 4 * (q.val / 128) + 0 < cfg0.N) : windAt m c (4 * (q.val / 128) + 0) h (ix2 0 (lane q))
    = ((∑ k ∈ Finset.range 4095, wt (re m c q) (im m c q) (4096 * 0 + k)) + sg (im m c q 0)
        - Ideal.atan2 (im m c q 0) (re m c q 0) * κ₂ : EReal) := by
  rw [windAt_first m c ⟨_, h⟩ (by show (4 * (q.val / 128) + 0) % 4 = 0; omega)]
  rw [pay3_lane (rows_0 m c q (by decide) h) (rows_1 m c q (by decide) h),
    pay23_lane (rows_0 m c q (by decide) h) (rows_1 m c q (by decide) h)]

theorem windAdd_column {j : ℕ} (hj : j + 1 < 4) (h : 4 * (q.val / 128) + (j + 1) < cfg0.N) (acc : Vec Ideal S1x128 .f32) :
    windAdd (iblk m c 0 ⟨4 * (q.val / 128) + (j + 1), h⟩) (iblk m c 1 ⟨4 * (q.val / 128) + (j + 1), h⟩)
      (k0_pay8 (iblk m c 0 ⟨4 * (q.val / 128) + j, Nat.lt_of_succ_lt h⟩))
      (k0_pay9 (iblk m c 1 ⟨4 * (q.val / 128) + j, Nat.lt_of_succ_lt h⟩)) acc (ix2 0 (lane q))
    = (acc (ix2 0 (lane q)) + ((∑ k ∈ Finset.range 4095, wt (re m c q) (im m c q) (4096 * (j + 1) + k))
        + wt (re m c q) (im m c q) (4096 * j + 4095)) : EReal) :=
  windAdd_lane (by omega) (rows_0 m c q hj h) (rows_1 m c q hj h) (rows_0 m c q (by omega) (Nat.lt_of_succ_lt h))
    (rows_1 m c q (by omega) (Nat.lt_of_succ_lt h)) acc

theorem wind_middle {j : ℕ} (hj : j + 1 < 3) (h : 4 * (q.val / 128) + (j + 1) < cfg0.N) :
    windAt m c (4 * (q.val / 128) + (j + 1)) h (ix2 0 (lane q))
    = (windAt m c (4 * (q.val / 128) + j) (Nat.lt_of_succ_lt h) (ix2 0 (lane q))
      + ((∑ k ∈ Finset.range 4095, wt (re m c q) (im m c q) (4096 * (j + 1) + k))
        + wt (re m c q) (im m c q) (4096 * j + 4095)) : EReal) := by
  refine (congrFun ((if_neg (show ¬(4 * (q.val / 128) + (j + 1)) % 4 = 0 by omega)).trans
    (if_neg (show ¬(4 * (q.val / 128) + (j + 1)) % 4 = 3 by omega))) _).trans ?_
  exact windAdd_column m c q (by omega) h _

theorem wind_column : (tiles (windAt m c) (ix2 0 q) : EReal) = windOf (re m c q) (im m c q) := by
  have h : 4 * (q.val / 128) + (2 + 1) < cfg0.N := point_lt q (by decide)
  show windAt m c (4 * (q.val / 128) + (2 + 1)) h (ix2 0 (lane q)) = _
  refine (congrFun ((if_neg (show ¬(4 * (q.val / 128) + 3) % 4 = 0 by omega)).trans
    (if_pos (show (4 * (q.val / 128) + 3) % 4 = 3 by omega))) _).trans ?_
  refine (pay7_lane (rows_0 m c q (by decide) h) (rows_1 m c q (by decide) h) _).trans ?_
  have e := windAdd_column m c q (j := 2) (by decide) h (windAt m c (4 * (q.val / 128) + 2) (Nat.lt_of_succ_lt h))
  rw [wind_middle m c q (by decide) (j := 1), wind_middle m c q (by decide) (j := 0), wind_first] at e
  refine (congrArg (fun z : EReal => (z - sg (im m c q 16383) + Ideal.atan2 (im m c q 16383) (re m c q 16383) * κ₂)
    * Ideal.ofBits .f32 0x3E800000#32) e).trans ?_
  rfl

theorem fix_first (h : 4 * (q.val / 128) + 0 < cfg0.N) : IsLast (Near (re m c q) (im m c q)) {n | 4096 * 0 ≤ n ∧ n < 4096 * 0 + 4095}
    (fixAt m c (4 * (q.val / 128) + 0) h (ix2 0 (lane q))).toInt := by
  rw [fixAt_first m c ⟨_, h⟩ (by show (4 * (q.val / 128) + 0) % 4 = 0; omega), pay4_lane, base_word,
    show 4096 * ((4 * (q.val / 128) + 0) % 4) = 4096 * 0 by omega]
  exact pay1_last _ _ _ _ (by norm_num) (pay24_lane (rows_0 m c q (by decide) h) (rows_1 m c q (by decide) h))

theorem fix_next {j : ℕ} (hj : j + 1 < 4) (h : 4 * (q.val / 128) + (j + 1) < cfg0.N)
    (ih : IsLast (Near (re m c q) (im m c q)) {n | n < 4096 * j + 4095}
      (fixAt m c (4 * (q.val / 128) + j) (Nat.lt_of_succ_lt h) (ix2 0 (lane q))).toInt) :
    IsLast (Near (re m c q) (im m c q)) {n | n < 4096 * (j + 1) + 4095}
      (fixAt m c (4 * (q.val / 128) + (j + 1)) h (ix2 0 (lane q))).toInt := by
  classical
  have e : fixAt m c (4 * (q.val / 128) + (j + 1)) h (ix2 0 (lane q))
      = IntOp.maxsi (fixAt m c (4 * (q.val / 128) + j) (Nat.lt_of_succ_lt h) (ix2 0 (lane q))) (IntOp.maxsi
          (Scalar.select (IntOp.cmpi .sge (k0_pay24 (F := Ideal) (iblk m c 0 ⟨4 * (q.val / 128) + (j + 1), h⟩) (iblk m c 1 ⟨4 * (q.val / 128) + (j + 1), h⟩) (ix1 (lane q))) 0#32)
            (IntOp.addi (k0_pay24 (F := Ideal) (iblk m c 0 ⟨4 * (q.val / 128) + (j + 1), h⟩) (iblk m c 1 ⟨4 * (q.val / 128) + (j + 1), h⟩) (ix1 (lane q)))
              (baseWord (grid0.coords ⟨4 * (q.val / 128) + (j + 1), h⟩))) 4294967295#32)
          (if Near (re m c q) (im m c q) (4096 * j + 4095) then Scalar.subi (baseWord (grid0.coords ⟨4 * (q.val / 128) + (j + 1), h⟩)) 1#32
            else 4294967295#32)) :=
    (congrFun (if_neg (show ¬(4 * (q.val / 128) + (j + 1)) % 4 = 0 by omega)) _).trans
      (pay6_lane (by omega) (rows_0 m c q hj h) (rows_1 m c q hj h) (rows_0 m c q (j := j) (by omega) (Nat.lt_of_succ_lt h))
        (rows_1 m c q (j := j) (by omega) (Nat.lt_of_succ_lt h)) _ _ _)
  rw [e, SortNet.toInt_maxsi, SortNet.toInt_maxsi, base_word]
  rw [show 4096 * ((4 * (q.val / 128) + (j + 1)) % 4) = 4096 * (j + 1) by omega]
  have h1 := pay1_last _ _ _ (4096 * (j + 1)) (by omega) (pay24_lane (rows_0 m c q hj h) (rows_1 m c q hj h))
  have h2 := isLast_single (Near (re m c q) (im m c q)) (4096 * j + 4095)
  have e2 : (if Near (re m c q) (im m c q) (4096 * j + 4095) then Scalar.subi (BitVec.ofNat 32 (4096 * (j + 1))) 1#32 else 4294967295#32).toInt
      = if Near (re m c q) (im m c q) (4096 * j + 4095) then ((4096 * j + 4095 : ℕ) : ℤ) else -1 := by
    split
    · have : j = 0 ∨ j = 1 ∨ j = 2 := by omega
      rcases this with rfl | rfl | rfl <;> decide
    · decide
  rw [e2]
  have hu := ih.union (h1.union h2)
  have hs : ({n | n < 4096 * j + 4095} ∪ ({n | 4096 * (j + 1) ≤ n ∧ n < 4096 * (j + 1) + 4095} ∪ {4096 * j + 4095}) : Set ℕ)
      = {n | n < 4096 * (j + 1) + 4095} := by
    ext n
    simp only [Set.mem_union, Set.mem_setOf_eq, Set.mem_singleton_iff]
    omega
  rw [hs] at hu
  exact hu

theorem fix_column : IsLast (Near (re m c q) (im m c q)) {n | n < 16383} (tiles (fixAt m c) (ix2 0 q)).toInt := by
  have h : 4 * (q.val / 128) + (2 + 1) < cfg0.N := point_lt q (by decide)
  have h0 := fix_first m c q (point_lt q (by decide))
  have hs : ({n | 4096 * 0 ≤ n ∧ n < 4096 * 0 + 4095} : Set ℕ) = {n | n < 4096 * 0 + 4095} := by
    ext n; simp only [Set.mem_setOf_eq]; omega
  rw [hs] at h0
  exact fix_next m c q (j := 2) (by decide) h (fix_next m c q (j := 1) (by decide) _ (fix_next m c q (j := 0) (by decide) _ h0))
end

end Cert.KernelIdeal.Vortex

end
-- ==== Proof.Assumption.lean ====
/- What the precondition says of a column, read at an entry. -/
module

public import proofs.«01_k».proof.Pre_repairable
public import proofs.«01_k».proof.Proof.Finite
public import proofs.«01_k».proof.Proof.Select
public import Idealize.ShloMosaic.Lib.IndicatorCount
public import Idealize.ShloMosaic.Lib.Pointwise

@[expose] public section

set_option maxRecDepth 16384

noncomputable section

namespace Cert.Pre_repairable

open Idealize.ShloMosaic Cert.Winding

/-- A pair's row where the pair is near, else minus one. -/
def nearWord (X Y : ℕ → EReal) (n : ℕ) : BitVec 32 :=
  Scalar.select (IntOp.andi (BitVec.ofBool (decide (pr Y n < 0))) (BitVec.ofBool (decide (FloatOps.absf (F := Ideal) (φ := .f32) (cr X Y n) < tiny))))
    (BitVec.ofNat 32 n) 4294967295#32

/-- The last near row of a column. -/
def lastWord (X Y : ℕ → EReal) : BitVec 32 :=
  Finset.fold IntOp.maxsi 2147483648#32 (fun k : Fin 16383 => nearWord X Y k.val) Finset.univ

/-- How many columns have a last near row as late as a column's. -/
def columns (x0 x1 : Vec Ideal S16384x1024 .f32) (q : Fin 1024) : BitVec 32 :=
  Finset.fold IntOp.addi 0#32 (fun l : Fin 1024 => BitVec.setWidth 32 (IntOp.cmpi .sge (lastWord (col x0 l) (col x1 l)) (lastWord (col x0 q) (col x1 q)))) Finset.univ

theorem fn_apply [Facts] (x0 x1 : Vec Ideal S16384x1024 .f32) (n : Fin 16383) (l : Fin 1024) : fn (F := Ideal) x0 x1 (ix2 n l)
    = IntOp.ori (~~~BitVec.ofBool (decide (meanRef (col x0 l) (col x1 l) < Ideal.ofBits .f32 0x3DCCCCCD#32)))
      (IntOp.andi
        (~~~IntOp.ori
          (IntOp.andi (BitVec.ofBool (decide (col x1 l n.val = 0))) (BitVec.ofBool (decide (col x1 l (n.val + 1) < 0))))
          (IntOp.andi (BitVec.ofBool (decide (col x1 l n.val < 0))) (BitVec.ofBool (decide (col x1 l (n.val + 1) = 0)))))
        (IntOp.ori
          (~~~IntOp.andi (IntOp.andi (BitVec.ofBool (decide (cr (col x0 l) (col x1 l) n.val = 0))) (BitVec.ofBool (decide (0 < col x1 l n.val))))
            (BitVec.ofBool (decide (col x1 l (n.val + 1) < 0))))
          (IntOp.andi (IntOp.cmpi .eq (BitVec.ofNat 32 n.val) (lastWord (col x0 l) (col x1 l)))
            (IntOp.cmpi .sle (columns x0 x1 l) 64#32)))) := by
  have g0 : ∀ (k : Fin 16384) (q : Fin 1024), (x0 (ix2 k q) : EReal) = col x0 q k.val := fun k q => (col_apply x0 q _).symm
  have g1 : ∀ (k : Fin 16384) (q : Fin 1024), (x1 (ix2 k q) : EReal) = col x1 q k.val := fun k q => (col_apply x1 q _).symm
  have h0 : ∀ (k : Fin 16383) (q : Fin 1024), (x0 (ix2 ⟨k.val, by omega⟩ q) : EReal) = col x0 q k.val := fun k q => (col_apply x0 q _).symm
  have h0' : ∀ (k : Fin 16383) (q : Fin 1024), (x0 (ix2 ⟨1 + k.val, by omega⟩ q) : EReal) = col x0 q (k.val + 1) := fun k q =>
    (col_apply x0 q ⟨1 + k.val, by omega⟩).symm.trans (congrArg (col x0 q) (Nat.add_comm _ _))
  have h1 : ∀ (k : Fin 16383) (q : Fin 1024), (x1 (ix2 ⟨k.val, by omega⟩ q) : EReal) = col x1 q k.val := fun k q => (col_apply x1 q _).symm
  have h1' : ∀ (k : Fin 16383) (q : Fin 1024), (x1 (ix2 ⟨1 + k.val, by omega⟩ q) : EReal) = col x1 q (k.val + 1) := fun k q =>
    (col_apply x1 q ⟨1 + k.val, by omega⟩).symm.trans (congrArg (col x1 q) (Nat.add_comm _ _))
  unfold meanRef md
  rw [Finset.sum_range]
  pointwise [fn, fn_where, fn_part3, fn_part2, fn_part1]
  simp only [h0, h0', h1, h1', g0, g1]
  rfl

theorem and_true {a b : BitVec 1} : IntOp.andi a b = 1#1 ↔ a = 1#1 ∧ b = 1#1 := by revert a b; decide
theorem or_true {a b : BitVec 1} : IntOp.ori a b = 1#1 ↔ a = 1#1 ∨ b = 1#1 := by revert a b; decide
theorem not_true {a : BitVec 1} : ~~~a = 1#1 ↔ ¬a = 1#1 := by revert a; decide
theorem bool_true {b : Bool} : BitVec.ofBool b = 1#1 ↔ b = true := by cases b <;> decide

/-- What the precondition says at a pair of a column whose mean is below the threshold. -/
theorem pre_at [Facts] (x0 x1 : Vec Ideal S16384x1024 .f32) (h : fn (F := Ideal) x0 x1 = fun _ => 1#1) (n : ℕ) (hn : n < 16383) (l : Fin 1024)
    (hm : meanRef (col x0 l) (col x1 l) < Ideal.ofBits .f32 0x3DCCCCCD#32) :
    ¬(col x1 l n = 0 ∧ col x1 l (n + 1) < 0) ∧ ¬(col x1 l n < 0 ∧ col x1 l (n + 1) = 0)
    ∧ (cr (col x0 l) (col x1 l) n = 0 → 0 < col x1 l n → col x1 l (n + 1) < 0 →
        BitVec.ofNat 32 n = lastWord (col x0 l) (col x1 l) ∧ (columns x0 x1 l).toInt ≤ 64) := by
  have e := (fn_apply x0 x1 ⟨n, hn⟩ l).symm.trans (congrFun h (ix2 ⟨n, hn⟩ l))
  simp only [and_true, or_true, not_true, bool_true, decide_eq_true_eq] at e
  obtain ⟨hz, hh⟩ := e.resolve_left (not_not_intro hm)
  refine ⟨fun g => hz (Or.inl g), fun g => hz (Or.inr g), fun a b d => ?_⟩
  rcases hh with g | ⟨g, g'⟩
  · exact absurd ⟨⟨a, b⟩, d⟩ g
  · unfold IntOp.cmpi at g g'
    exact ⟨by simpa [bool_true] using g, by simpa [bool_true, BitVec.sle] using g'⟩

theorem toInt_row (n : ℕ) (h : n < 2 ^ 31) : (BitVec.ofNat 32 n).toInt = n := by
  rw [BitVec.toInt_ofNat']
  exact Int.bmod_eq_of_le (by norm_num <;> omega) (by norm_num <;> omega)

/-- The last near row, as a number. -/
theorem lastWord_isLast (X Y : ℕ → EReal) : IsLast (Near X Y) {n | n < 16383} (lastWord X Y).toInt := by
  classical
  refine isLast_fold _ (by decide) _ (fun k hk => ?_) (fun k hk => ?_)
  · unfold nearWord
    rw [decide_eq_true hk.1, decide_eq_true hk.2]
    exact toInt_row k.val (by omega)
  · unfold nearWord
    have hb : IntOp.andi (BitVec.ofBool (decide (pr Y k.val < 0)))
        (BitVec.ofBool (decide (FloatOps.absf (F := Ideal) (φ := .f32) (cr X Y k.val) < tiny))) = 0#1 := by
      by_cases g : pr Y k.val < 0
      · rw [decide_eq_true g, decide_eq_false fun g' => hk ⟨g, g'⟩]; rfl
      · rw [decide_eq_false g]
        have hz : ∀ b : BitVec 1, IntOp.andi (BitVec.ofBool false) b = 0#1 := by decide
        exact hz _
    rw [hb]; rfl

/-- At most 64 columns have a last near row as late. -/
theorem columns_le (x0 x1 : Vec Ideal S16384x1024 .f32) (q : Fin 1024) (h : (columns x0 x1 q).toInt ≤ 64) :
    (Finset.univ.filter fun l : Fin 1024 => (lastWord (col x0 q) (col x1 q)).toInt ≤ (lastWord (col x0 l) (col x1 l)).toInt).card ≤ 64 := by
  unfold columns at h
  rw [IndicatorCount.fold_addi_setWidth_eq_card] at h
  have hc : (Finset.univ.filter fun l : Fin 1024 => IntOp.cmpi .sge (lastWord (col x0 l) (col x1 l)) (lastWord (col x0 q) (col x1 q)) = 1#1).card ≤ 1024 :=
    (Finset.card_le_univ _).trans (by rw [Fintype.card_fin])
  rw [toInt_row _ (lt_of_le_of_lt hc (by norm_num))] at h
  have hf : (Finset.univ.filter fun l : Fin 1024 => IntOp.cmpi .sge (lastWord (col x0 l) (col x1 l)) (lastWord (col x0 q) (col x1 q)) = 1#1)
      = Finset.univ.filter fun l : Fin 1024 => (lastWord (col x0 q) (col x1 q)).toInt ≤ (lastWord (col x0 l) (col x1 l)).toInt := by
    refine Finset.filter_congr fun l _ => ?_
    unfold IntOp.cmpi
    simp [bool_true, BitVec.sle]
  rw [hf] at h
  exact_mod_cast h

end Cert.Pre_repairable

end
-- ==== Proof.Algebraic.lean ====
/- The value claim: under the assumption the kernel's program and the reference end with the same two results. -/
module

public import proofs.«01_k».proof.Defs
public import proofs.«01_k».proof.Proof.Frames
public import proofs.«01_k».proof.Proof.Repair
public import proofs.«01_k».proof.Proof.Payload
public import proofs.«01_k».proof.Proof.Assumption

@[expose] public section

set_option maxRecDepth 16384

noncomputable section

namespace Cert.KernelIdeal.Vortex

open Idealize.ShloMosaic Idealize.ShloMosaic.TcCoe Idealize.SL.Sem
open Cert.KernelIdeal Cert.KernelIdeal.Gen Cert.Winding
open Idealize.ShloMosaic.Pipeline (Dat)

variable (m : (ℓ : Loc nD τ sig) → Buf (Elt Ideal) ℓ) (ρ : Dev nD → PrngReg) (c : Dev nD)

/-- What the host lines after the region start from. -/
def exitVal : Valuation τ sig (Elt Ideal) := Pipeline.withArrays (cfgs 0).spec c (V0 m c) fun w => (dats m 0 c).arrAt w (cfgs 0).N

theorem exit_arr (w : Fin 5) : exitVal m c (Proc.devRef .tc (Pipeline.arrRef spec0 w)) = (dats m 0 c).arrAt w cfg0.N :=
  Pipeline.withArrays_arr spec0 winFacts0.arr_inj c (V0 m c) (fun w => (dats m 0 c).arrAt w cfg0.N) w

theorem exit_0 : exitVal m c (Proc.devRef .tc main_arg0) = m ((c : Thread nD τ).loc main_arg0) :=
  (exit_arr m c 0).trans (((dats m 0 c).arrAt_in 0 rfl cfg0.N).trans (A_eq m c 0))
theorem exit_1 : exitVal m c (Proc.devRef .tc main_arg1) = m ((c : Thread nD τ).loc main_arg1) :=
  (exit_arr m c 1).trans (((dats m 0 c).arrAt_in 1 rfl cfg0.N).trans (A_eq m c 1))
theorem exit_2 : exitVal m c (Proc.devRef .tc main_call0_v0_0) = tiles (meanAt m c) := (exit_arr m c 2).trans (final_2 m c)
theorem exit_3 : exitVal m c (Proc.devRef .tc main_call0_v0_1) = tiles (windAt m c) := (exit_arr m c 3).trans (final_3 m c)
theorem exit_4 : exitVal m c (Proc.devRef .tc main_call0_v0_2) = tiles (fixAt m c) := (exit_arr m c 4).trans (final_4 m c)

theorem mean_flat (q : Fin 1024) : (flatMean (exitVal m c) (ix1 q) : EReal) = meanRef (re m c q) (im m c q) := by
  unfold flatMean
  rw [exit_2]
  exact (flat_apply _ q).trans ((mean_column m c q).trans (mean_eq _ _))
theorem wind_flat (q : Fin 1024) : (flatWind (exitVal m c) (ix1 q) : EReal) = windOf (re m c q) (im m c q) := by
  unfold flatWind
  rw [exit_3]
  exact (flat_apply _ q).trans (wind_column m c q)
theorem fix_flat (q : Fin 1024) : IsLast (Near (re m c q) (im m c q)) {n | n < 16383} (flatFix (exitVal m c) (ix1 q)).toInt := by
  unfold flatFix
  rw [exit_4, flat_apply]
  exact fix_column m c q

section
variable [Cert.Pre_repairable.Facts]
  (h : Cert.Pre_repairable.fn (F := Ideal) (m ((c : Thread nD τ).loc main_arg0)) (m ((c : Thread nD τ).loc main_arg1)) = fun _ => 1#1)
include h

/-- The repaired winding, where the mean is below its threshold. -/
theorem fixed_flat (q : Fin 1024) (hm : meanRef (re m c q) (im m c q) < Ideal.ofBits .f32 0x3DCCCCCD#32) :
    (fixed (flatWind (exitVal m c)) (flatFix (exitVal m c)) (m ((c : Thread nD τ).loc main_arg0)) (m ((c : Thread nD τ).loc main_arg1)) (ix1 q) : EReal)
      = windRef (re m c q) (im m c q) := by
  have hl : ∀ l : Fin 1024, (flatFix (exitVal m c) (ix1 l)).toInt = (Cert.Pre_repairable.lastWord (re m c l) (im m c l)).toInt := fun l =>
    (fix_flat m c l).unique (Cert.Pre_repairable.lastWord_isLast _ _)
  have hp := fun n hn => Cert.Pre_repairable.pre_at _ _ h n hn q hm
  refine fixed_column _ _ _ _ (fix_flat m c) q (wind_flat m c) (fun n hn => (hp n hn).1) (fun n hn => (hp n hn).2.1) (fun n hn t => ?_) hm
  obtain ⟨hrow, hcols⟩ := (hp n hn).2.2 t.1 t.2.1 t.2.2
  refine ⟨by rw [hl q, ← hrow, toInt_word n (by omega)], ?_⟩
  simp only [hl]
  exact Cert.Pre_repairable.columns_le _ _ q hcols

/-- The two results of the host lines at a column. -/
theorem result_0 (q : Fin 1024) : (StableHlo.after hostOps1 (exitVal m c) (Proc.devRef .tc main_v0_0) : IVec S1024 32) (ix1 q)
    = BitVec.setWidth 32 (flagOf (meanRef (re m c q) (im m c q)) (windRef (re m c q) (im m c q))) := by
  rw [(tail_results (exitVal m c)).1, exit_0, exit_1]
  refine (congrArg (BitVec.setWidth 32) (flags_apply _ _ q)).trans ?_
  rw [mean_flat]
  exact congrArg _ (flagOf_of_not _ _ _ (fixed_flat m c h q))

theorem result_1 (q : Fin 1024) : ((StableHlo.after hostOps1 (exitVal m c) (Proc.devRef .tc main_v0_1) : FVec Ideal S1024 .f32) (ix1 q) : EReal)
    = gated (meanRef (re m c q) (im m c q)) (windRef (re m c q) (im m c q)) := by
  rw [(tail_results (exitVal m c)).2, exit_0, exit_1]
  refine (gate_apply _ _ q).trans ?_
  rw [mean_flat]
  exact gated_of_not _ _ _ (fixed_flat m c h q)

end

/-- The run with the two results as the host lines leave them. -/
theorem run_results : θ_run defs (onTc (τ := τ) (main (F := Ideal))) ⟨m, fun _ => 0, ρ⟩ (fun r => ∀ c : Dev nD,
    r.2.mem ((c.tc : Thread nD τ).loc main_v0_0) = StableHlo.after hostOps1 (exitVal m c) (Proc.devRef .tc main_v0_0)
    ∧ r.2.mem ((c.tc : Thread nD τ).loc main_v0_1) = StableHlo.after hostOps1 (exitVal m c) (Proc.devRef .tc main_v0_1)) :=
  (θ_run defs _ _).mono (fun _ h c => ⟨(h.1 c).2 main_v0_0 (by decide +kernel), (h.1 c).2 main_v0_1 (by decide +kernel)⟩) (run_main m ρ)

end Cert.KernelIdeal.Vortex

namespace Cert.Proof

open Idealize.ShloMosaic Idealize.SL.Sem Cert.Winding

theorem algebraic [Cert.Pre_repairable.Facts] : Cert.algebraic_KernelIdeal_ReferenceIdeal_pre_repairable := fun m g m' g' hpre harg => by
  have ex : ∀ (c : Dev Cert.KernelIdeal.nD) (q : Fin 1024), Cert.ReferenceIdeal.Column.re m' c q = Cert.KernelIdeal.Vortex.re m c q := fun c q =>
    congrArg (fun x => col x q) (harg c).1
  have ey : ∀ (c : Dev Cert.KernelIdeal.nD) (q : Fin 1024), Cert.ReferenceIdeal.Column.im m' c q = Cert.KernelIdeal.Vortex.im m c q := fun c q =>
    congrArg (fun x => col x q) (harg c).2
  have hix : ∀ i : (⟨1, ![1024]⟩ : Shape).Idx, ∃ q : Fin 1024, i = ix1 q := fun i => ⟨i 0, funext fun a => by match a with | ⟨0, _⟩ => rfl⟩
  refine ⟨fun c => Cert.ReferenceIdeal.Value.res_main_v34 m' c, fun c => Cert.ReferenceIdeal.Value.res_main_v33 m' c, ?_,
    Cert.ReferenceIdeal.Value.run (F := Ideal) m' g'⟩
  refine (θ_run Cert.KernelIdeal.defs _ _).mono (fun r h c => ⟨(h.1 c).1.trans ?_, (h.1 c).2.trans ?_, h.2.1 c⟩)
    (θ_run_and (Cert.KernelIdeal.Vortex.run_results m g) (Cert.KernelIdeal.Vortex.frame m g))
  · funext i
    obtain ⟨q, rfl⟩ := hix i
    refine (Cert.KernelIdeal.Vortex.result_0 m c (hpre c) q).trans ?_
    rw [← ex c q, ← ey c q]
    exact (Cert.ReferenceIdeal.Column.flag_apply m' c q).symm
  · funext i
    obtain ⟨q, rfl⟩ := hix i
    refine (Cert.KernelIdeal.Vortex.result_1 m c (hpre c) q).trans ?_
    rw [← ex c q, ← ey c q]
    exact (Cert.ReferenceIdeal.Column.wind_apply m' c q).symm

end Cert.Proof

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_repairable

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_repairable.Gen.facts,
  frame_kernel, frame_kernel_ideal, fun m g _ => frame_kernel_ideal m g trivial, frame_reference, fun m g _ => frame_reference m g trivial,
  preserves, algebraic⟩

end Cert.Proof

end
